-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Ple0 (m : (ℓ : Loc Cert.Ple0.nD Cert.Ple0.τ Cert.Ple0.sig) → Buf (Elt Bits) ℓ) : Prop :=
  True

def Pre_Ple0Ideal (m : (ℓ : Loc Cert.Ple0Ideal.nD Cert.Ple0Ideal.τ Cert.Ple0Ideal.sig) → Buf (Elt Ideal) ℓ) : Prop :=
  True

def Pre_Ple0RefIdeal (m : (ℓ : Loc Cert.Ple0RefIdeal.nD Cert.Ple0RefIdeal.τ Cert.Ple0RefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_InProjT (m : (ℓ : Loc Cert.InProjT.nD Cert.InProjT.τ Cert.InProjT.sig) → Buf (Elt Bits) ℓ) : Prop :=
  True

def Pre_InProjTIdeal (m : (ℓ : Loc Cert.InProjTIdeal.nD Cert.InProjTIdeal.τ Cert.InProjTIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_Ple0 [hPle0 : Cert.Ple0.Facts] : Prop :=
  ∀ (m : (ℓ : Loc Cert.Ple0.nD Cert.Ple0.τ Cert.Ple0.sig) → Buf (Elt Bits) ℓ) (g : Dev Cert.Ple0.nD → PrngReg), Pre_Ple0 m →
    θ_run (Cert.Ple0.defs (F := Bits)) (onTc (τ := Cert.Ple0.τ) (Cert.Ple0.main (F := Bits))) ⟨m, fun _ => 0, g⟩ (fun r => (∀ c : Dev Cert.Ple0.nD,
      r.2.mem ((c.tc : Thread Cert.Ple0.nD Cert.Ple0.τ).loc Cert.Ple0.main_arg0) = m ((c.tc : Thread Cert.Ple0.nD Cert.Ple0.τ).loc Cert.Ple0.main_arg0)
      ∧ r.2.mem ((c.tc : Thread Cert.Ple0.nD Cert.Ple0.τ).loc Cert.Ple0.main_arg1) = m ((c.tc : Thread Cert.Ple0.nD Cert.Ple0.τ).loc Cert.Ple0.main_arg1)
      ∧ r.2.mem ((c.tc : Thread Cert.Ple0.nD Cert.Ple0.τ).loc Cert.Ple0.main_arg2) = m ((c.tc : Thread Cert.Ple0.nD Cert.Ple0.τ).loc Cert.Ple0.main_arg2)
      ∧ r.2.mem ((c.tc : Thread Cert.Ple0.nD Cert.Ple0.τ).loc Cert.Ple0.main_arg3) = m ((c.tc : Thread Cert.Ple0.nD Cert.Ple0.τ).loc Cert.Ple0.main_arg3)
      ∧ r.2.mem ((c.tc : Thread Cert.Ple0.nD Cert.Ple0.τ).loc Cert.Ple0.main_arg4) = m ((c.tc : Thread Cert.Ple0.nD Cert.Ple0.τ).loc Cert.Ple0.main_arg4))
      ∧ r.2.sem = fun _ => 0)

def quiescent_Ple0Ideal [hPle0Ideal : Cert.Ple0Ideal.Facts] : Prop :=
  ∀ (m : (ℓ : Loc Cert.Ple0Ideal.nD Cert.Ple0Ideal.τ Cert.Ple0Ideal.sig) → Buf (Elt Ideal) ℓ) (g : Dev Cert.Ple0Ideal.nD → PrngReg), Pre_Ple0Ideal m →
    θ_run (Cert.Ple0Ideal.defs (F := Ideal)) (onTc (τ := Cert.Ple0Ideal.τ) (Cert.Ple0Ideal.main (F := Ideal))) ⟨m, fun _ => 0, g⟩ (fun r => (∀ c : Dev Cert.Ple0Ideal.nD,
      r.2.mem ((c.tc : Thread Cert.Ple0Ideal.nD Cert.Ple0Ideal.τ).loc Cert.Ple0Ideal.main_arg0) = m ((c.tc : Thread Cert.Ple0Ideal.nD Cert.Ple0Ideal.τ).loc Cert.Ple0Ideal.main_arg0)
      ∧ r.2.mem ((c.tc : Thread Cert.Ple0Ideal.nD Cert.Ple0Ideal.τ).loc Cert.Ple0Ideal.main_arg1) = m ((c.tc : Thread Cert.Ple0Ideal.nD Cert.Ple0Ideal.τ).loc Cert.Ple0Ideal.main_arg1)
      ∧ r.2.mem ((c.tc : Thread Cert.Ple0Ideal.nD Cert.Ple0Ideal.τ).loc Cert.Ple0Ideal.main_arg2) = m ((c.tc : Thread Cert.Ple0Ideal.nD Cert.Ple0Ideal.τ).loc Cert.Ple0Ideal.main_arg2)
      ∧ r.2.mem ((c.tc : Thread Cert.Ple0Ideal.nD Cert.Ple0Ideal.τ).loc Cert.Ple0Ideal.main_arg3) = m ((c.tc : Thread Cert.Ple0Ideal.nD Cert.Ple0Ideal.τ).loc Cert.Ple0Ideal.main_arg3)
      ∧ r.2.mem ((c.tc : Thread Cert.Ple0Ideal.nD Cert.Ple0Ideal.τ).loc Cert.Ple0Ideal.main_arg4) = m ((c.tc : Thread Cert.Ple0Ideal.nD Cert.Ple0Ideal.τ).loc Cert.Ple0Ideal.main_arg4))
      ∧ r.2.sem = fun _ => 0)

def quiescent_Ple0RefIdeal [hPle0RefIdeal : Cert.Ple0RefIdeal.Facts] : Prop :=
  ∀ (m : (ℓ : Loc Cert.Ple0RefIdeal.nD Cert.Ple0RefIdeal.τ Cert.Ple0RefIdeal.sig) → Buf (Elt Ideal) ℓ) (g : Dev Cert.Ple0RefIdeal.nD → PrngReg), Pre_Ple0RefIdeal m →
    θ_run (Cert.Ple0RefIdeal.defs (F := Ideal)) (onTc (τ := Cert.Ple0RefIdeal.τ) (Cert.Ple0RefIdeal.main (F := Ideal))) ⟨m, fun _ => 0, g⟩ (fun r => (∀ c : Dev Cert.Ple0RefIdeal.nD,
      r.2.mem ((c.tc : Thread Cert.Ple0RefIdeal.nD Cert.Ple0RefIdeal.τ).loc Cert.Ple0RefIdeal.main_arg0) = m ((c.tc : Thread Cert.Ple0RefIdeal.nD Cert.Ple0RefIdeal.τ).loc Cert.Ple0RefIdeal.main_arg0)
      ∧ r.2.mem ((c.tc : Thread Cert.Ple0RefIdeal.nD Cert.Ple0RefIdeal.τ).loc Cert.Ple0RefIdeal.main_arg1) = m ((c.tc : Thread Cert.Ple0RefIdeal.nD Cert.Ple0RefIdeal.τ).loc Cert.Ple0RefIdeal.main_arg1)
      ∧ r.2.mem ((c.tc : Thread Cert.Ple0RefIdeal.nD Cert.Ple0RefIdeal.τ).loc Cert.Ple0RefIdeal.main_arg2) = m ((c.tc : Thread Cert.Ple0RefIdeal.nD Cert.Ple0RefIdeal.τ).loc Cert.Ple0RefIdeal.main_arg2)
      ∧ r.2.mem ((c.tc : Thread Cert.Ple0RefIdeal.nD Cert.Ple0RefIdeal.τ).loc Cert.Ple0RefIdeal.main_arg3) = m ((c.tc : Thread Cert.Ple0RefIdeal.nD Cert.Ple0RefIdeal.τ).loc Cert.Ple0RefIdeal.main_arg3)
      ∧ r.2.mem ((c.tc : Thread Cert.Ple0RefIdeal.nD Cert.Ple0RefIdeal.τ).loc Cert.Ple0RefIdeal.main_arg4) = m ((c.tc : Thread Cert.Ple0RefIdeal.nD Cert.Ple0RefIdeal.τ).loc Cert.Ple0RefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_InProjT [hInProjT : Cert.InProjT.Facts] : Prop :=
  ∀ (m : (ℓ : Loc Cert.InProjT.nD Cert.InProjT.τ Cert.InProjT.sig) → Buf (Elt Bits) ℓ) (g : Dev Cert.InProjT.nD → PrngReg), Pre_InProjT m →
    θ_run (Cert.InProjT.defs (F := Bits)) (onTc (τ := Cert.InProjT.τ) (Cert.InProjT.main (F := Bits))) ⟨m, fun _ => 0, g⟩ (fun r => (∀ c : Dev Cert.InProjT.nD,
      r.2.mem ((c.tc : Thread Cert.InProjT.nD Cert.InProjT.τ).loc Cert.InProjT.main_arg0) = m ((c.tc : Thread Cert.InProjT.nD Cert.InProjT.τ).loc Cert.InProjT.main_arg0)
      ∧ r.2.mem ((c.tc : Thread Cert.InProjT.nD Cert.InProjT.τ).loc Cert.InProjT.main_arg1) = m ((c.tc : Thread Cert.InProjT.nD Cert.InProjT.τ).loc Cert.InProjT.main_arg1)
      ∧ r.2.mem ((c.tc : Thread Cert.InProjT.nD Cert.InProjT.τ).loc Cert.InProjT.main_arg2) = m ((c.tc : Thread Cert.InProjT.nD Cert.InProjT.τ).loc Cert.InProjT.main_arg2)
      ∧ r.2.mem ((c.tc : Thread Cert.InProjT.nD Cert.InProjT.τ).loc Cert.InProjT.main_arg3) = m ((c.tc : Thread Cert.InProjT.nD Cert.InProjT.τ).loc Cert.InProjT.main_arg3)
      ∧ r.2.mem ((c.tc : Thread Cert.InProjT.nD Cert.InProjT.τ).loc Cert.InProjT.main_arg4) = m ((c.tc : Thread Cert.InProjT.nD Cert.InProjT.τ).loc Cert.InProjT.main_arg4)
      ∧ r.2.mem ((c.tc : Thread Cert.InProjT.nD Cert.InProjT.τ).loc Cert.InProjT.main_arg5) = m ((c.tc : Thread Cert.InProjT.nD Cert.InProjT.τ).loc Cert.InProjT.main_arg5)
      ∧ r.2.mem ((c.tc : Thread Cert.InProjT.nD Cert.InProjT.τ).loc Cert.InProjT.main_arg6) = m ((c.tc : Thread Cert.InProjT.nD Cert.InProjT.τ).loc Cert.InProjT.main_arg6)
      ∧ r.2.mem ((c.tc : Thread Cert.InProjT.nD Cert.InProjT.τ).loc Cert.InProjT.main_arg7) = m ((c.tc : Thread Cert.InProjT.nD Cert.InProjT.τ).loc Cert.InProjT.main_arg7)
      ∧ r.2.mem ((c.tc : Thread Cert.InProjT.nD Cert.InProjT.τ).loc Cert.InProjT.main_arg8) = m ((c.tc : Thread Cert.InProjT.nD Cert.InProjT.τ).loc Cert.InProjT.main_arg8)
      ∧ r.2.mem ((c.tc : Thread Cert.InProjT.nD Cert.InProjT.τ).loc Cert.InProjT.main_arg9) = m ((c.tc : Thread Cert.InProjT.nD Cert.InProjT.τ).loc Cert.InProjT.main_arg9))
      ∧ r.2.sem = fun _ => 0)

def quiescent_InProjTIdeal [hInProjTIdeal : Cert.InProjTIdeal.Facts] : Prop :=
  ∀ (m : (ℓ : Loc Cert.InProjTIdeal.nD Cert.InProjTIdeal.τ Cert.InProjTIdeal.sig) → Buf (Elt Ideal) ℓ) (g : Dev Cert.InProjTIdeal.nD → PrngReg), Pre_InProjTIdeal m →
    θ_run (Cert.InProjTIdeal.defs (F := Ideal)) (onTc (τ := Cert.InProjTIdeal.τ) (Cert.InProjTIdeal.main (F := Ideal))) ⟨m, fun _ => 0, g⟩ (fun r => (∀ c : Dev Cert.InProjTIdeal.nD,
      r.2.mem ((c.tc : Thread Cert.InProjTIdeal.nD Cert.InProjTIdeal.τ).loc Cert.InProjTIdeal.main_arg0) = m ((c.tc : Thread Cert.InProjTIdeal.nD Cert.InProjTIdeal.τ).loc Cert.InProjTIdeal.main_arg0)
      ∧ r.2.mem ((c.tc : Thread Cert.InProjTIdeal.nD Cert.InProjTIdeal.τ).loc Cert.InProjTIdeal.main_arg1) = m ((c.tc : Thread Cert.InProjTIdeal.nD Cert.InProjTIdeal.τ).loc Cert.InProjTIdeal.main_arg1)
      ∧ r.2.mem ((c.tc : Thread Cert.InProjTIdeal.nD Cert.InProjTIdeal.τ).loc Cert.InProjTIdeal.main_arg2) = m ((c.tc : Thread Cert.InProjTIdeal.nD Cert.InProjTIdeal.τ).loc Cert.InProjTIdeal.main_arg2)
      ∧ r.2.mem ((c.tc : Thread Cert.InProjTIdeal.nD Cert.InProjTIdeal.τ).loc Cert.InProjTIdeal.main_arg3) = m ((c.tc : Thread Cert.InProjTIdeal.nD Cert.InProjTIdeal.τ).loc Cert.InProjTIdeal.main_arg3)
      ∧ r.2.mem ((c.tc : Thread Cert.InProjTIdeal.nD Cert.InProjTIdeal.τ).loc Cert.InProjTIdeal.main_arg4) = m ((c.tc : Thread Cert.InProjTIdeal.nD Cert.InProjTIdeal.τ).loc Cert.InProjTIdeal.main_arg4)
      ∧ r.2.mem ((c.tc : Thread Cert.InProjTIdeal.nD Cert.InProjTIdeal.τ).loc Cert.InProjTIdeal.main_arg5) = m ((c.tc : Thread Cert.InProjTIdeal.nD Cert.InProjTIdeal.τ).loc Cert.InProjTIdeal.main_arg5)
      ∧ r.2.mem ((c.tc : Thread Cert.InProjTIdeal.nD Cert.InProjTIdeal.τ).loc Cert.InProjTIdeal.main_arg6) = m ((c.tc : Thread Cert.InProjTIdeal.nD Cert.InProjTIdeal.τ).loc Cert.InProjTIdeal.main_arg6)
      ∧ r.2.mem ((c.tc : Thread Cert.InProjTIdeal.nD Cert.InProjTIdeal.τ).loc Cert.InProjTIdeal.main_arg7) = m ((c.tc : Thread Cert.InProjTIdeal.nD Cert.InProjTIdeal.τ).loc Cert.InProjTIdeal.main_arg7)
      ∧ r.2.mem ((c.tc : Thread Cert.InProjTIdeal.nD Cert.InProjTIdeal.τ).loc Cert.InProjTIdeal.main_arg8) = m ((c.tc : Thread Cert.InProjTIdeal.nD Cert.InProjTIdeal.τ).loc Cert.InProjTIdeal.main_arg8)
      ∧ r.2.mem ((c.tc : Thread Cert.InProjTIdeal.nD Cert.InProjTIdeal.τ).loc Cert.InProjTIdeal.main_arg9) = m ((c.tc : Thread Cert.InProjTIdeal.nD Cert.InProjTIdeal.τ).loc Cert.InProjTIdeal.main_arg9))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v8)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v245) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v23) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v30) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v15) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v3)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v3) = v0 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v7) = v0 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_Ple0_Ple0Ideal : Prop :=
  True

def algebraic_Ple0Ideal_Ple0RefIdeal [hPle0Ideal : Cert.Ple0Ideal.Facts] [hPle0RefIdeal : Cert.Ple0RefIdeal.Facts] : Prop :=
  ∀ (m : (ℓ : Loc Cert.Ple0Ideal.nD Cert.Ple0Ideal.τ Cert.Ple0Ideal.sig) → Buf (Elt Ideal) ℓ) (g : Dev Cert.Ple0Ideal.nD → PrngReg)
    (m' : (ℓ : Loc Cert.Ple0RefIdeal.nD Cert.Ple0RefIdeal.τ Cert.Ple0RefIdeal.sig) → Buf (Elt Ideal) ℓ) (g' : Dev Cert.Ple0RefIdeal.nD → PrngReg), Pre_Ple0Ideal m →
    (∀ c : Dev Cert.Ple0Ideal.nD,
      m' ((c.tc : Thread Cert.Ple0RefIdeal.nD Cert.Ple0RefIdeal.τ).loc Cert.Ple0RefIdeal.main_arg0) = m ((c.tc : Thread Cert.Ple0Ideal.nD Cert.Ple0Ideal.τ).loc Cert.Ple0Ideal.main_arg0)
      ∧ m' ((c.tc : Thread Cert.Ple0RefIdeal.nD Cert.Ple0RefIdeal.τ).loc Cert.Ple0RefIdeal.main_arg1) = m ((c.tc : Thread Cert.Ple0Ideal.nD Cert.Ple0Ideal.τ).loc Cert.Ple0Ideal.main_arg1)
      ∧ m' ((c.tc : Thread Cert.Ple0RefIdeal.nD Cert.Ple0RefIdeal.τ).loc Cert.Ple0RefIdeal.main_arg2) = m ((c.tc : Thread Cert.Ple0Ideal.nD Cert.Ple0Ideal.τ).loc Cert.Ple0Ideal.main_arg2)
      ∧ m' ((c.tc : Thread Cert.Ple0RefIdeal.nD Cert.Ple0RefIdeal.τ).loc Cert.Ple0RefIdeal.main_arg3) = m ((c.tc : Thread Cert.Ple0Ideal.nD Cert.Ple0Ideal.τ).loc Cert.Ple0Ideal.main_arg3)
      ∧ m' ((c.tc : Thread Cert.Ple0RefIdeal.nD Cert.Ple0RefIdeal.τ).loc Cert.Ple0RefIdeal.main_arg4) = m ((c.tc : Thread Cert.Ple0Ideal.nD Cert.Ple0Ideal.τ).loc Cert.Ple0Ideal.main_arg4)) →
    ∃ (v0 : (c : Dev Cert.Ple0Ideal.nD) → Buf (Elt Ideal) ((c.tc : Thread Cert.Ple0Ideal.nD Cert.Ple0Ideal.τ).loc Cert.Ple0Ideal.main_v6_0)) (v1 : (c : Dev Cert.Ple0Ideal.nD) → Buf (Elt Ideal) ((c.tc : Thread Cert.Ple0Ideal.nD Cert.Ple0Ideal.τ).loc Cert.Ple0Ideal.main_v6_1)),
      θ_run (Cert.Ple0Ideal.defs (F := Ideal)) (onTc (τ := Cert.Ple0Ideal.τ) (Cert.Ple0Ideal.main (F := Ideal))) ⟨m, fun _ => 0, g⟩ (fun r => ∀ c : Dev Cert.Ple0Ideal.nD,
          r.2.mem ((c.tc : Thread Cert.Ple0Ideal.nD Cert.Ple0Ideal.τ).loc Cert.Ple0Ideal.main_v6_0) = v0 c
          ∧ r.2.mem ((c.tc : Thread Cert.Ple0Ideal.nD Cert.Ple0Ideal.τ).loc Cert.Ple0Ideal.main_v6_1) = v1 c
          ∧ r.2.mem ((c.tc : Thread Cert.Ple0Ideal.nD Cert.Ple0Ideal.τ).loc Cert.Ple0Ideal.main_arg0) = m ((c.tc : Thread Cert.Ple0Ideal.nD Cert.Ple0Ideal.τ).loc Cert.Ple0Ideal.main_arg0)
          ∧ r.2.mem ((c.tc : Thread Cert.Ple0Ideal.nD Cert.Ple0Ideal.τ).loc Cert.Ple0Ideal.main_arg1) = m ((c.tc : Thread Cert.Ple0Ideal.nD Cert.Ple0Ideal.τ).loc Cert.Ple0Ideal.main_arg1)
          ∧ r.2.mem ((c.tc : Thread Cert.Ple0Ideal.nD Cert.Ple0Ideal.τ).loc Cert.Ple0Ideal.main_arg2) = m ((c.tc : Thread Cert.Ple0Ideal.nD Cert.Ple0Ideal.τ).loc Cert.Ple0Ideal.main_arg2)
          ∧ r.2.mem ((c.tc : Thread Cert.Ple0Ideal.nD Cert.Ple0Ideal.τ).loc Cert.Ple0Ideal.main_arg3) = m ((c.tc : Thread Cert.Ple0Ideal.nD Cert.Ple0Ideal.τ).loc Cert.Ple0Ideal.main_arg3)
          ∧ r.2.mem ((c.tc : Thread Cert.Ple0Ideal.nD Cert.Ple0Ideal.τ).loc Cert.Ple0Ideal.main_arg4) = m ((c.tc : Thread Cert.Ple0Ideal.nD Cert.Ple0Ideal.τ).loc Cert.Ple0Ideal.main_arg4))
      ∧ θ_run (Cert.Ple0RefIdeal.defs (F := Ideal)) (onTc (τ := Cert.Ple0RefIdeal.τ) (Cert.Ple0RefIdeal.main (F := Ideal))) ⟨m', fun _ => 0, g'⟩ (fun r => ∀ c : Dev Cert.Ple0RefIdeal.nD,
          r.2.mem ((c.tc : Thread Cert.Ple0RefIdeal.nD Cert.Ple0RefIdeal.τ).loc Cert.Ple0RefIdeal.main_v32) = v0 c
          ∧ r.2.mem ((c.tc : Thread Cert.Ple0RefIdeal.nD Cert.Ple0RefIdeal.τ).loc Cert.Ple0RefIdeal.main_v34) = v1 c
          ∧ r.2.mem ((c.tc : Thread Cert.Ple0RefIdeal.nD Cert.Ple0RefIdeal.τ).loc Cert.Ple0RefIdeal.main_arg0) = m' ((c.tc : Thread Cert.Ple0RefIdeal.nD Cert.Ple0RefIdeal.τ).loc Cert.Ple0RefIdeal.main_arg0)
          ∧ r.2.mem ((c.tc : Thread Cert.Ple0RefIdeal.nD Cert.Ple0RefIdeal.τ).loc Cert.Ple0RefIdeal.main_arg1) = m' ((c.tc : Thread Cert.Ple0RefIdeal.nD Cert.Ple0RefIdeal.τ).loc Cert.Ple0RefIdeal.main_arg1)
          ∧ r.2.mem ((c.tc : Thread Cert.Ple0RefIdeal.nD Cert.Ple0RefIdeal.τ).loc Cert.Ple0RefIdeal.main_arg2) = m' ((c.tc : Thread Cert.Ple0RefIdeal.nD Cert.Ple0RefIdeal.τ).loc Cert.Ple0RefIdeal.main_arg2)
          ∧ r.2.mem ((c.tc : Thread Cert.Ple0RefIdeal.nD Cert.Ple0RefIdeal.τ).loc Cert.Ple0RefIdeal.main_arg3) = m' ((c.tc : Thread Cert.Ple0RefIdeal.nD Cert.Ple0RefIdeal.τ).loc Cert.Ple0RefIdeal.main_arg3)
          ∧ r.2.mem ((c.tc : Thread Cert.Ple0RefIdeal.nD Cert.Ple0RefIdeal.τ).loc Cert.Ple0RefIdeal.main_arg4) = m' ((c.tc : Thread Cert.Ple0RefIdeal.nD Cert.Ple0RefIdeal.τ).loc Cert.Ple0RefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v22_0)) (v1 : (c : Dev Cert.RopeIdeal.nD) → Buf (Elt Ideal) ((c.tc : Thread Cert.RopeIdeal.nD Cert.RopeIdeal.τ).loc Cert.RopeIdeal.main_v22_1)) (v2 : (c : Dev Cert.RopeIdeal.nD) → Buf (Elt Ideal) ((c.tc : Thread Cert.RopeIdeal.nD Cert.RopeIdeal.τ).loc Cert.RopeIdeal.main_v22_2)) (v3 : (c : Dev Cert.RopeIdeal.nD) → Buf (Elt Ideal) ((c.tc : Thread Cert.RopeIdeal.nD Cert.RopeIdeal.τ).loc Cert.RopeIdeal.main_v22_3)) (v4 : (c : Dev Cert.RopeIdeal.nD) → Buf (Elt Ideal) ((c.tc : Thread Cert.RopeIdeal.nD Cert.RopeIdeal.τ).loc Cert.RopeIdeal.main_v22_4)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v22_0) = v0 c
          ∧ r.2.mem ((c.tc : Thread Cert.RopeIdeal.nD Cert.RopeIdeal.τ).loc Cert.RopeIdeal.main_v22_1) = v1 c
          ∧ r.2.mem ((c.tc : Thread Cert.RopeIdeal.nD Cert.RopeIdeal.τ).loc Cert.RopeIdeal.main_v22_2) = v2 c
          ∧ r.2.mem ((c.tc : Thread Cert.RopeIdeal.nD Cert.RopeIdeal.τ).loc Cert.RopeIdeal.main_v22_3) = v3 c
          ∧ r.2.mem ((c.tc : Thread Cert.RopeIdeal.nD Cert.RopeIdeal.τ).loc Cert.RopeIdeal.main_v22_4) = v4 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v28) = v0 c
          ∧ r.2.mem ((c.tc : Thread Cert.RopeRefIdeal.nD Cert.RopeRefIdeal.τ).loc Cert.RopeRefIdeal.main_v32) = v1 c
          ∧ r.2.mem ((c.tc : Thread Cert.RopeRefIdeal.nD Cert.RopeRefIdeal.τ).loc Cert.RopeRefIdeal.main_v35) = v2 c
          ∧ r.2.mem ((c.tc : Thread Cert.RopeRefIdeal.nD Cert.RopeRefIdeal.τ).loc Cert.RopeRefIdeal.main_v37) = v3 c
          ∧ r.2.mem ((c.tc : Thread Cert.RopeRefIdeal.nD Cert.RopeRefIdeal.τ).loc Cert.RopeRefIdeal.main_v40) = v4 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_InProjT_InProjTIdeal : Prop :=
  True

def Claim : Prop :=
  ∃ (hConv : Cert.Conv.Facts) (hConvIdeal : Cert.ConvIdeal.Facts) (hConvRefIdeal : Cert.ConvRefIdeal.Facts) (hMlp : Cert.Mlp.Facts) (hMlpIdeal : Cert.MlpIdeal.Facts) (hMlpRefIdeal : Cert.MlpRefIdeal.Facts) (hPle : Cert.Ple.Facts) (hPleIdeal : Cert.PleIdeal.Facts) (hPleRefIdeal : Cert.PleRefIdeal.Facts) (hGlu : Cert.Glu.Facts) (hGluIdeal : Cert.GluIdeal.Facts) (hGluRefIdeal : Cert.GluRefIdeal.Facts) (hRes : Cert.Res.Facts) (hResIdeal : Cert.ResIdeal.Facts) (hResRefIdeal : Cert.ResRefIdeal.Facts) (hPle0 : Cert.Ple0.Facts) (hPle0Ideal : Cert.Ple0Ideal.Facts) (hPle0RefIdeal : Cert.Ple0RefIdeal.Facts) (hRope : Cert.Rope.Facts) (hRopeIdeal : Cert.RopeIdeal.Facts) (hRopeRefIdeal : Cert.RopeRefIdeal.Facts) (hInProjT : Cert.InProjT.Facts) (hInProjTIdeal : Cert.InProjTIdeal.Facts),
    quiescent_Conv (hConv := hConv)
    ∧ quiescent_ConvIdeal (hConvIdeal := hConvIdeal)
    ∧ quiescent_ConvRefIdeal (hConvRefIdeal := hConvRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Ple (hPle := hPle)
    ∧ quiescent_PleIdeal (hPleIdeal := hPleIdeal)
    ∧ quiescent_PleRefIdeal (hPleRefIdeal := hPleRefIdeal)
    ∧ quiescent_Glu (hGlu := hGlu)
    ∧ quiescent_GluIdeal (hGluIdeal := hGluIdeal)
    ∧ quiescent_GluRefIdeal (hGluRefIdeal := hGluRefIdeal)
    ∧ quiescent_Res (hRes := hRes)
    ∧ quiescent_ResIdeal (hResIdeal := hResIdeal)
    ∧ quiescent_ResRefIdeal (hResRefIdeal := hResRefIdeal)
    ∧ quiescent_Ple0 (hPle0 := hPle0)
    ∧ quiescent_Ple0Ideal (hPle0Ideal := hPle0Ideal)
    ∧ quiescent_Ple0RefIdeal (hPle0RefIdeal := hPle0RefIdeal)
    ∧ quiescent_Rope (hRope := hRope)
    ∧ quiescent_RopeIdeal (hRopeIdeal := hRopeIdeal)
    ∧ quiescent_RopeRefIdeal (hRopeRefIdeal := hRopeRefIdeal)
    ∧ quiescent_InProjT (hInProjT := hInProjT)
    ∧ quiescent_InProjTIdeal (hInProjTIdeal := hInProjTIdeal)
    ∧ preserves_Conv_ConvIdeal
    ∧ algebraic_ConvIdeal_ConvRefIdeal (hConvIdeal := hConvIdeal) (hConvRefIdeal := hConvRefIdeal)
    ∧ preserves_Mlp_MlpIdeal
    ∧ algebraic_MlpIdeal_MlpRefIdeal (hMlpIdeal := hMlpIdeal) (hMlpRefIdeal := hMlpRefIdeal)
    ∧ preserves_Ple_PleIdeal
    ∧ algebraic_PleIdeal_PleRefIdeal (hPleIdeal := hPleIdeal) (hPleRefIdeal := hPleRefIdeal)
    ∧ preserves_Glu_GluIdeal
    ∧ algebraic_GluIdeal_GluRefIdeal (hGluIdeal := hGluIdeal) (hGluRefIdeal := hGluRefIdeal)
    ∧ preserves_Res_ResIdeal
    ∧ algebraic_ResIdeal_ResRefIdeal (hResIdeal := hResIdeal) (hResRefIdeal := hResRefIdeal)
    ∧ preserves_Ple0_Ple0Ideal
    ∧ algebraic_Ple0Ideal_Ple0RefIdeal (hPle0Ideal := hPle0Ideal) (hPle0RefIdeal := hPle0RefIdeal)
    ∧ preserves_Rope_RopeIdeal
    ∧ algebraic_RopeIdeal_RopeRefIdeal (hRopeIdeal := hRopeIdeal) (hRopeRefIdeal := hRopeRefIdeal)
    ∧ preserves_InProjT_InProjTIdeal
-- ==== Conv.lean ====
abbrev S2x4096x2048 : Shape := ⟨3, ![2, 4096, 2048]⟩
abbrev S31x2048 : Shape := ⟨2, ![31, 2048]⟩
abbrev S2048 : Shape := ⟨1, ![2048]⟩
abbrev S_ : Shape := ⟨0, ![]⟩
abbrev S32x2048 : Shape := ⟨2, ![32, 2048]⟩
abbrev S1 : Shape := ⟨1, ![1]⟩
abbrev S32x16x128 : Shape := ⟨3, ![32, 16, 128]⟩
abbrev S16x32x128 : Shape := ⟨3, ![16, 32, 128]⟩
abbrev S1x2048 : Shape := ⟨2, ![1, 2048]⟩
abbrev S1x128x2048 : Shape := ⟨3, ![1, 128, 2048]⟩
abbrev S1x32x2048 : Shape := ⟨3, ![1, 32, 2048]⟩
abbrev S16x160x128 : Shape := ⟨3, ![16, 160, 128]⟩
abbrev S16x128x128 : Shape := ⟨3, ![16, 128, 128]⟩
abbrev S160x128 : Shape := ⟨2, ![160, 128]⟩
abbrev S1x32x128 : Shape := ⟨3, ![1, 32, 128]⟩
abbrev S32x128 : Shape := ⟨2, ![32, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x152x128 : Shape := ⟨3, ![1, 152, 128]⟩
abbrev S152x128 : Shape := ⟨2, ![152, 128]⟩
abbrev S128x2048 : Shape := ⟨2, ![128, 2048]⟩
abbrev S128 : Shape := ⟨1, ![128]⟩
abbrev S128x1 : Shape := ⟨2, ![128, 1]⟩

abbrev nBuf : Space → Nat
  | .hbm => 16
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S31x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32x2048, .f32⟩
  | .hbm, ⟨7, _⟩ => ⟨S_, .i32⟩
  | .hbm, ⟨8, _⟩ => ⟨S1, .i32⟩
  | .hbm, ⟨9, _⟩ => ⟨S32x2048, .f32⟩
  | .hbm, ⟨10, _⟩ => ⟨S32x16x128, .f32⟩
  | .hbm, ⟨11, _⟩ => ⟨S16x32x128, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S2x4096x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x32x2048, .f32⟩
  | .local _ .vmem, ⟨3, _⟩ => ⟨S1x32x2048, .f32⟩
  | .local _ .vmem, ⟨4, _⟩ => ⟨S16x32x128, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x128x2048, .bf16⟩
  | .local _ .vmem, ⟨9, _⟩ => ⟨S1x128x2048, .bf16⟩
  | .local _ .vmem, ⟨10, _⟩ => ⟨S16x160x128, .f32⟩
  | .local _ .vmem, ⟨11, _⟩ => ⟨S16x128x128, .f32⟩
  | .local _ .vmem, ⟨12, _⟩ => ⟨S160x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_175 : BitVec 32 := 0#32
  let c16_i32 : BitVec 32 := 16#32
  let v193 : BitVec 32 := Scalar.addi c0_i32_175 c16_i32
  let c1_i32 : BitVec 32 := 1#32
  ⟨c0_i32_175, v193, c1_i32⟩
def k0_off1 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v262 : Index := Scalar.indexCast arg12
  let c8_240 : Index := 8#32
  let c0_241 : Index := 0#32
  ![v262.toNat, 8, 0]
def k0_off2 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v265 : Index := Scalar.indexCast arg12
  let c6_242 : Index := 6#32
  let c0_243 : Index := 0#32
  ![v265.toNat, 6, 0]
def k0_off3 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v271 : Index := Scalar.indexCast arg12
  let c16 : Index := 16#32
  let c0_244 : Index := 0#32
  ![v271.toNat, 16, 0]
def k0_off4 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v274 : Index := Scalar.indexCast arg12
  let c14_245 : Index := 14#32
  let c0_246 : Index := 0#32
  ![v274.toNat, 14, 0]
def k0_off5 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v280 : Index := Scalar.indexCast arg12
  let c24 : Index := 24#32
  let c0_247 : Index := 0#32
  ![v280.toNat, 24, 0]
def k0_off6 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v283 : Index := Scalar.indexCast arg12
  let c22 : Index := 22#32
  let c0_248 : Index := 0#32
  ![v283.toNat, 22, 0]
def k0_off7 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v289 : Index := Scalar.indexCast arg12
  let c32_249 : Index := 32#32
  let c0_250 : Index := 0#32
  ![v289.toNat, 32, 0]
def k0_off8 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v292 : Index := Scalar.indexCast arg12
  let c30 : Index := 30#32
  let c0_251 : Index := 0#32
  ![v292.toNat, 30, 0]
def k0_off9 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v298 : Index := Scalar.indexCast arg12
  let c1_252 : Index := 1#32
  let c0_253 : Index := 0#32
  ![v298.toNat, 1, 0]
def k0_off10 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v305 : Index := Scalar.indexCast arg12
  let c7_258 : Index := 7#32
  let c0_259 : Index := 0#32
  ![v305.toNat, 7, 0]
def k0_off11 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v312 : Index := Scalar.indexCast arg12
  let c15_262 : Index := 15#32
  let c0_263 : Index := 0#32
  ![v312.toNat, 15, 0]
def k0_off12 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v319 : Index := Scalar.indexCast arg12
  let c23 : Index := 23#32
  let c0_266 : Index := 0#32
  ![v319.toNat, 23, 0]
def k0_off13 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v325 : Index := Scalar.indexCast arg12
  let c2_267 : Index := 2#32
  let c0_268 : Index := 0#32
  ![v325.toNat, 2, 0]
def k0_off14 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v332 : Index := Scalar.indexCast arg12
  let c0_273 : Index := 0#32
  let c0_274 : Index := 0#32
  ![v332.toNat, 0, 0]
def k0_off15 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v339 : Index := Scalar.indexCast arg12
  let c8_277 : Index := 8#32
  let c0_278 : Index := 0#32
  ![v339.toNat, 8, 0]
def k0_off16 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v346 : Index := Scalar.indexCast arg12
  let c16_281 : Index := 16#32
  let c0_282 : Index := 0#32
  ![v346.toNat, 16, 0]
def k0_off17 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v353 : Index := Scalar.indexCast arg12
  let c24_285 : Index := 24#32
  let c0_286 : Index := 0#32
  ![v353.toNat, 24, 0]
def k0_off18 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v359 : Index := Scalar.indexCast arg12
  let c3_287 : Index := 3#32
  let c0_288 : Index := 0#32
  ![v359.toNat, 3, 0]
def k0_off19 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v366 : Index := Scalar.indexCast arg12
  let c1_293 : Index := 1#32
  let c0_294 : Index := 0#32
  ![v366.toNat, 1, 0]
def k0_off20 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v373 : Index := Scalar.indexCast arg12
  let c9_297 : Index := 9#32
  let c0_298 : Index := 0#32
  ![v373.toNat, 9, 0]
def k0_off21 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v380 : Index := Scalar.indexCast arg12
  let c17 : Index := 17#32
  let c0_301 : Index := 0#32
  ![v380.toNat, 17, 0]
def k0_off22 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v387 : Index := Scalar.indexCast arg12
  let c25 : Index := 25#32
  let c0_304 : Index := 0#32
  ![v387.toNat, 25, 0]
def k0_off23 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v393 : Index := Scalar.indexCast arg12
  let c4_305 : Index := 4#32
  let c0_306 : Index := 0#32
  ![v393.toNat, 4, 0]
def k0_off24 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v400 : Index := Scalar.indexCast arg12
  let c2_311 : Index := 2#32
  let c0_312 : Index := 0#32
  ![v400.toNat, 2, 0]
def k0_off25 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v407 : Index := Scalar.indexCast arg12
  let c10_315 : Index := 10#32
  let c0_316 : Index := 0#32
  ![v407.toNat, 10, 0]
def k0_off26 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v414 : Index := Scalar.indexCast arg12
  let c18 : Index := 18#32
  let c0_319 : Index := 0#32
  ![v414.toNat, 18, 0]
def k0_off27 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v421 : Index := Scalar.indexCast arg12
  let c26 : Index := 26#32
  let c0_322 : Index := 0#32
  ![v421.toNat, 26, 0]
def k0_off28 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v427 : Index := Scalar.indexCast arg12
  let c5_323 : Index := 5#32
  let c0_324 : Index := 0#32
  ![v427.toNat, 5, 0]
def k0_off29 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v434 : Index := Scalar.indexCast arg12
  let c3_329 : Index := 3#32
  let c0_330 : Index := 0#32
  ![v434.toNat, 3, 0]
def k0_off30 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v441 : Index := Scalar.indexCast arg12
  let c11_333 : Index := 11#32
  let c0_334 : Index := 0#32
  ![v441.toNat, 11, 0]
def k0_off31 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v448 : Index := Scalar.indexCast arg12
  let c19 : Index := 19#32
  let c0_337 : Index := 0#32
  ![v448.toNat, 19, 0]
def k0_off32 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v455 : Index := Scalar.indexCast arg12
  let c27 : Index := 27#32
  let c0_340 : Index := 0#32
  ![v455.toNat, 27, 0]
def k0_off33 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v461 : Index := Scalar.indexCast arg12
  let c6_341 : Index := 6#32
  let c0_342 : Index := 0#32
  ![v461.toNat, 6, 0]
def k0_off34 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v468 : Index := Scalar.indexCast arg12
  let c4_347 : Index := 4#32
  let c0_348 : Index := 0#32
  ![v468.toNat, 4, 0]
def k0_off35 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v475 : Index := Scalar.indexCast arg12
  let c12_351 : Index := 12#32
  let c0_352 : Index := 0#32
  ![v475.toNat, 12, 0]
def k0_off36 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v482 : Index := Scalar.indexCast arg12
  let c20 : Index := 20#32
  let c0_355 : Index := 0#32
  ![v482.toNat, 20, 0]
def k0_off37 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v489 : Index := Scalar.indexCast arg12
  let c28 : Index := 28#32
  let c0_358 : Index := 0#32
  ![v489.toNat, 28, 0]
def k0_off38 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v495 : Index := Scalar.indexCast arg12
  let c7_359 : Index := 7#32
  let c0_360 : Index := 0#32
  ![v495.toNat, 7, 0]
def k0_off39 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v502 : Index := Scalar.indexCast arg12
  let c5_365 : Index := 5#32
  let c0_366 : Index := 0#32
  ![v502.toNat, 5, 0]
def k0_off40 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v509 : Index := Scalar.indexCast arg12
  let c13_369 : Index := 13#32
  let c0_370 : Index := 0#32
  ![v509.toNat, 13, 0]
def k0_off41 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v516 : Index := Scalar.indexCast arg12
  let c21 : Index := 21#32
  let c0_373 : Index := 0#32
  ![v516.toNat, 21, 0]
def k0_off42 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v523 : Index := Scalar.indexCast arg12
  let c29 : Index := 29#32
  let c0_376 : Index := 0#32
  ![v523.toNat, 29, 0]
def k0_off43 (k0_t1 : Fin k0_t1_loop.trips) : Fin 3 → Nat :=
  let c0_i32_175 : BitVec 32 := 0#32
  let c1_i32 : BitVec 32 := 1#32
  let arg12 : BitVec 32 := Scf.iv c0_i32_175 c1_i32 k0_t1
  let v529 : Index := Scalar.indexCast arg12
  let c0_377 : Index := 0#32
  let c0_378 : Index := 0#32
  ![v529.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S2x4096x2048 : Shape := ⟨3, ![2, 4096, 2048]⟩
abbrev S31x2048 : Shape := ⟨2, ![31, 2048]⟩
abbrev S2048 : Shape := ⟨1, ![2048]⟩
abbrev S_ : Shape := ⟨0, ![]⟩
abbrev S2x4126x2048 : Shape := ⟨3, ![2, 4126, 2048]⟩
abbrev S1x2048 : Shape := ⟨2, ![1, 2048]⟩
abbrev S1x1x2048 : Shape := ⟨3, ![1, 1, 2048]⟩
abbrev S2x4096 : Shape := ⟨2, ![2, 4096]⟩
abbrev S2x4096x1 : Shape := ⟨3, ![2, 4096, 1]⟩

abbrev nBuf : Space → Nat
  | .hbm => 267
  | .vmem => 0
  | .smem => 0
  | _ => 0

abbrev hbmTy0_0 (i : Nat) : BufTy := match i % 128 with
  | 0 => ⟨S2x4096x2048, .f32⟩
  | 1 => ⟨S31x2048, .f32⟩
  | 2 => ⟨S2048, .f32⟩
  | 3 => ⟨S2048, .f32⟩
  | 4 => ⟨S2048, .f32⟩
  | 5 => ⟨S_, .i32⟩
  | 6 => ⟨S_, .f32⟩
  | 7 => ⟨S2x4126x2048, .f32⟩
  | 8 => ⟨S2x4096x2048, .f32⟩
  | 9 => ⟨S1x2048, .f32⟩
  | 10 => ⟨S2048, .f32⟩
  | 11 => ⟨S1x1x2048, .f32⟩
  | 12 => ⟨S2x4096x2048, .f32⟩
  | 13 => ⟨S2x4096x2048, .f32⟩
  | 14 => ⟨S_, .f32⟩
  | 15 => ⟨S2x4096x2048, .f32⟩
  | 16 => ⟨S2x4096x2048, .f32⟩
  | 17 => ⟨S2x4096x2048, .f32⟩
  | 18 => ⟨S1x2048, .f32⟩
  | 19 => ⟨S2048, .f32⟩
  | 20 => ⟨S1x1x2048, .f32⟩
  | 21 => ⟨S2x4096x2048, .f32⟩
  | 22 => ⟨S2x4096x2048, .f32⟩
  | 23 => ⟨S2x4096x2048, .f32⟩
  | 24 => ⟨S2x4096x2048, .f32⟩
  | 25 => ⟨S1x2048, .f32⟩
  | 26 => ⟨S2048, .f32⟩
  | 27 => ⟨S1x1x2048, .f32⟩
  | 28 => ⟨S2x4096x2048, .f32⟩
  | 29 => ⟨S2x4096x2048, .f32⟩
  | 30 => ⟨S2x4096x2048, .f32⟩
  | 31 => ⟨S2x4096x2048, .f32⟩
  | 32 => ⟨S1x2048, .f32⟩
  | 33 => ⟨S2048, .f32⟩
  | 34 => ⟨S1x1x2048, .f32⟩
  | 35 => ⟨S2x4096x2048, .f32⟩
  | 36 => ⟨S2x4096x2048, .f32⟩
  | 37 => ⟨S2x4096x2048, .f32⟩
  | 38 => ⟨S2x4096x2048, .f32⟩
  | 39 => ⟨S1x2048, .f32⟩
  | 40 => ⟨S2048, .f32⟩
  | 41 => ⟨S1x1x2048, .f32⟩
  | 42 => ⟨S2x4096x2048, .f32⟩
  | 43 => ⟨S2x4096x2048, .f32⟩
  | 44 => ⟨S2x4096x2048, .f32⟩
  | 45 => ⟨S2x4096x2048, .f32⟩
  | 46 => ⟨S1x2048, .f32⟩
  | 47 => ⟨S2048, .f32⟩
  | 48 => ⟨S1x1x2048, .f32⟩
  | 49 => ⟨S2x4096x2048, .f32⟩
  | 50 => ⟨S2x4096x2048, .f32⟩
  | 51 => ⟨S2x4096x2048, .f32⟩
  | 52 => ⟨S2x4096x2048, .f32⟩
  | 53 => ⟨S1x2048, .f32⟩
  | 54 => ⟨S2048, .f32⟩
  | 55 => ⟨S1x1x2048, .f32⟩
  | 56 => ⟨S2x4096x2048, .f32⟩
  | 57 => ⟨S2x4096x2048, .f32⟩
  | 58 => ⟨S2x4096x2048, .f32⟩
  | 59 => ⟨S2x4096x2048, .f32⟩
  | 60 => ⟨S1x2048, .f32⟩
  | 61 => ⟨S2048, .f32⟩
  | 62 => ⟨S1x1x2048, .f32⟩
  | 63 => ⟨S2x4096x2048, .f32⟩
  | 64 => ⟨S2x4096x2048, .f32⟩
  | 65 => ⟨S2x4096x2048, .f32⟩
  | 66 => ⟨S2x4096x2048, .f32⟩
  | 67 => ⟨S1x2048, .f32⟩
  | 68 => ⟨S2048, .f32⟩
  | 69 => ⟨S1x1x2048, .f32⟩
  | 70 => ⟨S2x4096x2048, .f32⟩
  | 71 => ⟨S2x4096x2048, .f32⟩
  | 72 => ⟨S2x4096x2048, .f32⟩
  | 73 => ⟨S2x4096x2048, .f32⟩
  | 74 => ⟨S1x2048, .f32⟩
  | 75 => ⟨S2048, .f32⟩
  | 76 => ⟨S1x1x2048, .f32⟩
  | 77 => ⟨S2x4096x2048, .f32⟩
  | 78 => ⟨S2x4096x2048, .f32⟩
  | 79 => ⟨S2x4096x2048, .f32⟩
  | 80 => ⟨S2x4096x2048, .f32⟩
  | 81 => ⟨S1x2048, .f32⟩
  | 82 => ⟨S2048, .f32⟩
  | 83 => ⟨S1x1x2048, .f32⟩
  | 84 => ⟨S2x4096x2048, .f32⟩
  | 85 => ⟨S2x4096x2048, .f32⟩
  | 86 => ⟨S2x4096x2048, .f32⟩
  | 87 => ⟨S2x4096x2048, .f32⟩
  | 88 => ⟨S1x2048, .f32⟩
  | 89 => ⟨S2048, .f32⟩
  | 90 => ⟨S1x1x2048, .f32⟩
  | 91 => ⟨S2x4096x2048, .f32⟩
  | 92 => ⟨S2x4096x2048, .f32⟩
  | 93 => ⟨S2x4096x2048, .f32⟩
  | 94 => ⟨S2x4096x2048, .f32⟩
  | 95 => ⟨S1x2048, .f32⟩
  | 96 => ⟨S2048, .f32⟩
  | 97 => ⟨S1x1x2048, .f32⟩
  | 98 => ⟨S2x4096x2048, .f32⟩
  | 99 => ⟨S2x4096x2048, .f32⟩
  | 100 => ⟨S2x4096x2048, .f32⟩
  | 101 => ⟨S2x4096x2048, .f32⟩
  | 102 => ⟨S1x2048, .f32⟩
  | 103 => ⟨S2048, .f32⟩
  | 104 => ⟨S1x1x2048, .f32⟩
  | 105 => ⟨S2x4096x2048, .f32⟩
  | 106 => ⟨S2x4096x2048, .f32⟩
  | 107 => ⟨S2x4096x2048, .f32⟩
  | 108 => ⟨S2x4096x2048, .f32⟩
  | 109 => ⟨S1x2048, .f32⟩
  | 110 => ⟨S2048, .f32⟩
  | 111 => ⟨S1x1x2048, .f32⟩
  | 112 => ⟨S2x4096x2048, .f32⟩
  | 113 => ⟨S2x4096x2048, .f32⟩
  | 114 => ⟨S2x4096x2048, .f32⟩
  | 115 => ⟨S2x4096x2048, .f32⟩
  | 116 => ⟨S1x2048, .f32⟩
  | 117 => ⟨S2048, .f32⟩
  | 118 => ⟨S1x1x2048, .f32⟩
  | 119 => ⟨S2x4096x2048, .f32⟩
  | 120 => ⟨S2x4096x2048, .f32⟩
  | 121 => ⟨S2x4096x2048, .f32⟩
  | 122 => ⟨S2x4096x2048, .f32⟩
  | 123 => ⟨S1x2048, .f32⟩
  | 124 => ⟨S2048, .f32⟩
  | 125 => ⟨S1x1x2048, .f32⟩
  | 126 => ⟨S2x4096x2048, .f32⟩
  | 127 => ⟨S2x4096x2048, .f32⟩
  | _ => ⟨S2x4096x2048, .f32⟩

abbrev hbmTy0_1 (i : Nat) : BufTy := match i % 128 with
  | 0 => ⟨S2x4096x2048, .f32⟩
  | 1 => ⟨S2x4096x2048, .f32⟩
  | 2 => ⟨S1x2048, .f32⟩
  | 3 => ⟨S2048, .f32⟩
  | 4 => ⟨S1x1x2048, .f32⟩
  | 5 => ⟨S2x4096x2048, .f32⟩
  | 6 => ⟨S2x4096x2048, .f32⟩
  | 7 => ⟨S2x4096x2048, .f32⟩
  | 8 => ⟨S2x4096x2048, .f32⟩
  | 9 => ⟨S1x2048, .f32⟩
  | 10 => ⟨S2048, .f32⟩
  | 11 => ⟨S1x1x2048, .f32⟩
  | 12 => ⟨S2x4096x2048, .f32⟩
  | 13 => ⟨S2x4096x2048, .f32⟩
  | 14 => ⟨S2x4096x2048, .f32⟩
  | 15 => ⟨S2x4096x2048, .f32⟩
  | 16 => ⟨S1x2048, .f32⟩
  | 17 => ⟨S2048, .f32⟩
  | 18 => ⟨S1x1x2048, .f32⟩
  | 19 => ⟨S2x4096x2048, .f32⟩
  | 20 => ⟨S2x4096x2048, .f32⟩
  | 21 => ⟨S2x4096x2048, .f32⟩
  | 22 => ⟨S2x4096x2048, .f32⟩
  | 23 => ⟨S1x2048, .f32⟩
  | 24 => ⟨S2048, .f32⟩
  | 25 => ⟨S1x1x2048, .f32⟩
  | 26 => ⟨S2x4096x2048, .f32⟩
  | 27 => ⟨S2x4096x2048, .f32⟩
  | 28 => ⟨S2x4096x2048, .f32⟩
  | 29 => ⟨S2x4096x2048, .f32⟩
  | 30 => ⟨S1x2048, .f32⟩
  | 31 => ⟨S2048, .f32⟩
  | 32 => ⟨S1x1x2048, .f32⟩
  | 33 => ⟨S2x4096x2048, .f32⟩
  | 34 => ⟨S2x4096x2048, .f32⟩
  | 35 => ⟨S2x4096x2048, .f32⟩
  | 36 => ⟨S2x4096x2048, .f32⟩
  | 37 => ⟨S1x2048, .f32⟩
  | 38 => ⟨S2048, .f32⟩
  | 39 => ⟨S1x1x2048, .f32⟩
  | 40 => ⟨S2x4096x2048, .f32⟩
  | 41 => ⟨S2x4096x2048, .f32⟩
  | 42 => ⟨S2x4096x2048, .f32⟩
  | 43 => ⟨S2x4096x2048, .f32⟩
  | 44 => ⟨S1x2048, .f32⟩
  | 45 => ⟨S2048, .f32⟩
  | 46 => ⟨S1x1x2048, .f32⟩
  | 47 => ⟨S2x4096x2048, .f32⟩
  | 48 => ⟨S2x4096x2048, .f32⟩
  | 49 => ⟨S2x4096x2048, .f32⟩
  | 50 => ⟨S2x4096x2048, .f32⟩
  | 51 => ⟨S1x2048, .f32⟩
  | 52 => ⟨S2048, .f32⟩
  | 53 => ⟨S1x1x2048, .f32⟩
  | 54 => ⟨S2x4096x2048, .f32⟩
  | 55 => ⟨S2x4096x2048, .f32⟩
  | 56 => ⟨S2x4096x2048, .f32⟩
  | 57 => ⟨S2x4096x2048, .f32⟩
  | 58 => ⟨S1x2048, .f32⟩
  | 59 => ⟨S2048, .f32⟩
  | 60 => ⟨S1x1x2048, .f32⟩
  | 61 => ⟨S2x4096x2048, .f32⟩
  | 62 => ⟨S2x4096x2048, .f32⟩
  | 63 => ⟨S2x4096x2048, .f32⟩
  | 64 => ⟨S2x4096x2048, .f32⟩
  | 65 => ⟨S1x2048, .f32⟩
  | 66 => ⟨S2048, .f32⟩
  | 67 => ⟨S1x1x2048, .f32⟩
  | 68 => ⟨S2x4096x2048, .f32⟩
  | 69 => ⟨S2x4096x2048, .f32⟩
  | 70 => ⟨S2x4096x2048, .f32⟩
  | 71 => ⟨S2x4096x2048, .f32⟩
  | 72 => ⟨S1x2048, .f32⟩
  | 73 => ⟨S2048, .f32⟩
  | 74 => ⟨S1x1x2048, .f32⟩
  | 75 => ⟨S2x4096x2048, .f32⟩
  | 76 => ⟨S2x4096x2048, .f32⟩
  | 77 => ⟨S2x4096x2048, .f32⟩
  | 78 => ⟨S2x4096x2048, .f32⟩
  | 79 => ⟨S1x2048, .f32⟩
  | 80 => ⟨S2048, .f32⟩
  | 81 => ⟨S1x1x2048, .f32⟩
  | 82 => ⟨S2x4096x2048, .f32⟩
  | 83 => ⟨S2x4096x2048, .f32⟩
  | 84 => ⟨S2x4096x2048, .f32⟩
  | 85 => ⟨S2x4096x2048, .f32⟩
  | 86 => ⟨S1x2048, .f32⟩
  | 87 => ⟨S2048, .f32⟩
  | 88 => ⟨S1x1x2048, .f32⟩
  | 89 => ⟨S2x4096x2048, .f32⟩
  | 90 => ⟨S2x4096x2048, .f32⟩
  | 91 => ⟨S2x4096x2048, .f32⟩
  | 92 => ⟨S2x4096x2048, .f32⟩
  | 93 => ⟨S1x2048, .f32⟩
  | 94 => ⟨S2048, .f32⟩
  | 95 => ⟨S1x1x2048, .f32⟩
  | 96 => ⟨S2x4096x2048, .f32⟩
  | 97 => ⟨S2x4096x2048, .f32⟩
  | 98 => ⟨S2x4096x2048, .f32⟩
  | 99 => ⟨S1x1x2048, .f32⟩
  | 100 => ⟨S2x4096x2048, .f32⟩
  | 101 => ⟨S2x4096x2048, .f32⟩
  | 102 => ⟨S_, .f32⟩
  | 103 => ⟨S2x4096, .f32⟩
  | 104 => ⟨S2x4096x1, .f32⟩
  | 105 => ⟨S_, .f32⟩
  | 106 => ⟨S2x4096x1, .f32⟩
  | 107 => ⟨S2x4096x1, .f32⟩
  | 108 => ⟨S2x4096x2048, .f32⟩
  | 109 => ⟨S2x4096x2048, .f32⟩
  | 110 => ⟨S2x4096x2048, .f32⟩
  | 111 => ⟨S_, .f32⟩
  | 112 => ⟨S2x4096, .f32⟩
  | 113 => ⟨S2x4096x1, .f32⟩
  | 114 => ⟨S_, .f32⟩
  | 115 => ⟨S2x4096x1, .f32⟩
  | 116 => ⟨S2x4096x1, .f32⟩
  | 117 => ⟨S_, .f32⟩
  | 118 => ⟨S2x4096x1, .f32⟩
  | 119 => ⟨S2x4096x1, .f32⟩
  | 120 => ⟨S2x4096x1, .f32⟩
  | 121 => ⟨S2x4096x2048, .f32⟩
  | 122 => ⟨S2x4096x2048, .f32⟩
  | 123 => ⟨S1x1x2048, .f32⟩
  | 124 => ⟨S2x4096x2048, .f32⟩
  | 125 => ⟨S2x4096x2048, .f32⟩
  | 126 => ⟨S1x1x2048, .f32⟩
  | 127 => ⟨S2x4096x2048, .f32⟩
  | _ => ⟨S2x4096x2048, .f32⟩

abbrev hbmTy0_2 (i : Nat) : BufTy := match i % 128 with
  | 0 => ⟨S2x4096x2048, .f32⟩
  | 1 => ⟨S2x4096x2048, .f32⟩
  | 2 => ⟨S2x4096x2048, .f32⟩
  | 3 => ⟨S_, .f32⟩
  | 4 => ⟨S2x4096x2048, .f32⟩
  | 5 => ⟨S2x4096x2048, .f32⟩
  | 6 => ⟨S_, .f32⟩
  | 7 => ⟨S2x4096x2048, .f32⟩
  | 8 => ⟨S2x4096x2048, .f32⟩
  | 9 => ⟨S2x4096x2048, .f32⟩
  | 10 => ⟨S2x4096x2048, .bf16⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_cst_0 : Ref sig .tc := ⟨.hbm, 230, rfl⟩
abbrev main_v222 : Ref sig .tc := ⟨.hbm, 231, rfl⟩
abbrev main_v223 : Ref sig .tc := ⟨.hbm, 232, rfl⟩
abbrev main_cst_1 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_cst_2 : Ref sig .tc := ⟨.hbm, 239, rfl⟩
abbrev main_v229 : Ref sig .tc := ⟨.hbm, 240, rfl⟩
abbrev main_v230 : Ref sig .tc := ⟨.hbm, 241, rfl⟩
abbrev main_cst_3 : Ref sig .tc := ⟨.hbm, 242, rfl⟩
abbrev main_v231 : Ref sig .tc := ⟨.hbm, 243, rfl⟩
abbrev main_v232 : Ref sig .tc := ⟨.hbm, 244, rfl⟩
abbrev main_cst_4 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_call1_v0 : Ref sig .tc := ⟨.hbm, 257, rfl⟩
abbrev main_call1_v1 : Ref sig .tc := ⟨.hbm, 258, rfl⟩
abbrev main_call1_cst : Ref sig .tc := ⟨.hbm, 259, rfl⟩
abbrev main_call1_v2 : Ref sig .tc := ⟨.hbm, 260, rfl⟩
abbrev main_call1_v3 : Ref sig .tc := ⟨.hbm, 261, rfl⟩
abbrev main_call1_cst_0 : Ref sig .tc := ⟨.hbm, 262, rfl⟩
abbrev main_call1_v4 : Ref sig .tc := ⟨.hbm, 263, rfl⟩
abbrev main_call1_v5 : Ref sig .tc := ⟨.hbm, 264, rfl⟩
abbrev main_v244 : Ref sig .tc := ⟨.hbm, 265, rfl⟩
abbrev main_v245 : Ref sig .tc := ⟨.hbm, 266, rfl⟩

abbrev nD : Nat := 1
abbrev τ : Topo := Topo.v7x

variable {F : FTy → Type} [FloatOps F]
-- ==== Mlp.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x8192, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S1x8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Ple.lean ====
abbrev S8192x2048 : Shape := ⟨2, ![8192, 2048]⟩
abbrev S2x2x4096x256 : Shape := ⟨4, ![2, 2, 4096, 256]⟩
abbrev S2x2048x2048 : Shape := ⟨3, ![2, 2048, 2048]⟩
abbrev S2x256x2048 : Shape := ⟨3, ![2, 256, 2048]⟩
abbrev S2048 : Shape := ⟨1, ![2048]⟩
abbrev S2x8192x256 : Shape := ⟨3, ![2, 8192, 256]⟩
abbrev S1x2048 : Shape := ⟨2, ![1, 2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S512x256 : Shape := ⟨2, ![512, 256]⟩
abbrev S1x2048x512 : Shape := ⟨3, ![1, 2048, 512]⟩
abbrev S2048x512 : Shape := ⟨2, ![2048, 512]⟩
abbrev S512x512 : Shape := ⟨2, ![512, 512]⟩
abbrev S1x256x512 : Shape := ⟨3, ![1, 256, 512]⟩
abbrev S256x512 : Shape := ⟨2, ![256, 512]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x2x4096x256, .f32⟩
  | .hbm, ⟨2, _⟩ => ⟨S2x2048x2048, .f32⟩
  | .hbm, ⟨3, _⟩ => ⟨S2x256x2048, .f32⟩
  | .hbm, ⟨4, _⟩ => ⟨S2048, .f32⟩
  | .hbm, ⟨5, _⟩ => ⟨S2x8192x256, .f32⟩
  | .hbm, ⟨6, _⟩ => ⟨S2x2048x2048, .bf16⟩
  | .hbm, ⟨7, _⟩ => ⟨S2x256x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048x2048, .bf16⟩
  | .local _ .vmem, ⟨5, _⟩ => ⟨S1x256x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S8192x2048 : Shape := ⟨2, ![8192, 2048]⟩
abbrev S2x2x4096x256 : Shape := ⟨4, ![2, 2, 4096, 256]⟩
abbrev S2x2048x2048 : Shape := ⟨3, ![2, 2048, 2048]⟩
abbrev S2x256x2048 : Shape := ⟨3, ![2, 256, 2048]⟩
abbrev S2048 : Shape := ⟨1, ![2048]⟩
abbrev S2x4096x2048 : Shape := ⟨3, ![2, 4096, 2048]⟩
abbrev S1x2048x2048 : Shape := ⟨3, ![1, 2048, 2048]⟩
abbrev S2048x2048 : Shape := ⟨2, ![2048, 2048]⟩
abbrev S_ : Shape := ⟨0, ![]⟩
abbrev S1x2x4096x256 : Shape := ⟨4, ![1, 2, 4096, 256]⟩
abbrev S2x4096x256 : Shape := ⟨3, ![2, 4096, 256]⟩
abbrev S1x256x2048 : Shape := ⟨3, ![1, 256, 2048]⟩
abbrev S256x2048 : Shape := ⟨2, ![256, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2x4096x256, .f32⟩
  | .hbm, ⟨2, _⟩ => ⟨S2x2048x2048, .f32⟩
  | .hbm, ⟨3, _⟩ => ⟨S2x256x2048, .f32⟩
  | .hbm, ⟨4, _⟩ => ⟨S2048, .f32⟩
  | .hbm, ⟨5, _⟩ => ⟨S2x4096x2048, .f32⟩
  | .hbm, ⟨6, _⟩ => ⟨S1x2048x2048, .f32⟩
  | .hbm, ⟨7, _⟩ => ⟨S2048x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S1x2x4096x256, .f32⟩
  | .hbm, ⟨18, _⟩ => ⟨S2x4096x256, .f32⟩
  | .hbm, ⟨19, _⟩ => ⟨S1x256x2048, .f32⟩
  | .hbm, ⟨20, _⟩ => ⟨S256x2048, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x2048, .f32⟩
  | .hbm, ⟨36, _⟩ => ⟨S2x4096x2048, .f32⟩
  | .hbm, ⟨37, _⟩ => ⟨S1x1x2048, .f32⟩
  | .hbm, ⟨38, _⟩ => ⟨S2x4096x2048, .f32⟩
  | .hbm, ⟨39, _⟩ => ⟨S2x4096x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Glu.lean ====
abbrev S8192x2048 : Shape := ⟨2, ![8192, 2048]⟩
abbrev S1x2048x4096 : Shape := ⟨3, ![1, 2048, 4096]⟩
abbrev S1x4096 : Shape := ⟨2, ![1, 4096]⟩
abbrev S4096 : Shape := ⟨1, ![4096]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1x2048x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S8192x2048 : Shape := ⟨2, ![8192, 2048]⟩
abbrev S1x2048x4096 : Shape := ⟨3, ![1, 2048, 4096]⟩
abbrev S1x4096 : Shape := ⟨2, ![1, 4096]⟩
abbrev S2048x4096 : Shape := ⟨2, ![2048, 4096]⟩
abbrev S8192x4096 : Shape := ⟨2, ![8192, 4096]⟩
abbrev S4096 : Shape := ⟨1, ![4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x4096, .f32⟩
  | .hbm, ⟨2, _⟩ => ⟨S1x4096, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Res.lean ====
abbrev S8192x2048 : Shape := ⟨2, ![8192, 2048]⟩
abbrev S1x2048x2048 : Shape := ⟨3, ![1, 2048, 2048]⟩
abbrev S1x2048 : Shape := ⟨2, ![1, 2048]⟩
abbrev S2048 : Shape := ⟨1, ![2048]⟩
abbrev S512x2048 : Shape := ⟨2, ![512, 2048]⟩
abbrev S1x2048x512 : Shape := ⟨3, ![1, 2048, 512]⟩
abbrev S2048x512 : Shape := ⟨2, ![2048, 512]⟩
abbrev S512x512 : Shape := ⟨2, ![512, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x2048, .f32⟩
  | .hbm, ⟨3, _⟩ => ⟨S8192x2048, .f32⟩
  | .hbm, ⟨4, _⟩ => ⟨S1x2048x2048, .bf16⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResRefIdeal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ple0.lean ====
abbrev S8192x2048 : Shape := ⟨2, ![8192, 2048]⟩
abbrev S2x2x4096x256 : Shape := ⟨4, ![2, 2, 4096, 256]⟩
abbrev S2x2048x2048 : Shape := ⟨3, ![2, 2048, 2048]⟩
abbrev S2x256x2048 : Shape := ⟨3, ![2, 256, 2048]⟩
abbrev S2x2048 : Shape := ⟨2, ![2, 2048]⟩
abbrev S2x8192x256 : Shape := ⟨3, ![2, 8192, 256]⟩
abbrev S1x2048 : Shape := ⟨2, ![1, 2048]⟩
abbrev S2048 : Shape := ⟨1, ![2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S512x256 : Shape := ⟨2, ![512, 256]⟩
abbrev S1x2048x512 : Shape := ⟨3, ![1, 2048, 512]⟩
abbrev S2048x512 : Shape := ⟨2, ![2048, 512]⟩
abbrev S512x512 : Shape := ⟨2, ![512, 512]⟩
abbrev S1x256x512 : Shape := ⟨3, ![1, 256, 512]⟩
abbrev S256x512 : Shape := ⟨2, ![256, 512]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2x4096x256, .f32⟩
  | .hbm, ⟨2, _⟩ => ⟨S2x2048x2048, .f32⟩
  | .hbm, ⟨3, _⟩ => ⟨S2x256x2048, .f32⟩
  | .hbm, ⟨4, _⟩ => ⟨S2x2048, .f32⟩
  | .hbm, ⟨5, _⟩ => ⟨S2x8192x256, .f32⟩
  | .hbm, ⟨6, _⟩ => ⟨S2x2048x2048, .bf16⟩
  | .hbm, ⟨7, _⟩ => ⟨S2x256x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048x2048, .bf16⟩
  | .local _ .vmem, ⟨5, _⟩ => ⟨S1x256x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ple0RefIdeal.lean ====
abbrev S8192x2048 : Shape := ⟨2, ![8192, 2048]⟩
abbrev S2x2x4096x256 : Shape := ⟨4, ![2, 2, 4096, 256]⟩
abbrev S2x2048x2048 : Shape := ⟨3, ![2, 2048, 2048]⟩
abbrev S2x256x2048 : Shape := ⟨3, ![2, 256, 2048]⟩
abbrev S2x2048 : Shape := ⟨2, ![2, 2048]⟩
abbrev S2x4096x2048 : Shape := ⟨3, ![2, 4096, 2048]⟩
abbrev S1x2048x2048 : Shape := ⟨3, ![1, 2048, 2048]⟩
abbrev S2048x2048 : Shape := ⟨2, ![2048, 2048]⟩
abbrev S_ : Shape := ⟨0, ![]⟩
abbrev S1x2x4096x256 : Shape := ⟨4, ![1, 2, 4096, 256]⟩
abbrev S2x4096x256 : Shape := ⟨3, ![2, 4096, 256]⟩
abbrev S1x256x2048 : Shape := ⟨3, ![1, 256, 2048]⟩
abbrev S256x2048 : Shape := ⟨2, ![256, 2048]⟩
abbrev S2x4096 : Shape := ⟨2, ![2, 4096]⟩
abbrev S2x4096x1 : Shape := ⟨3, ![2, 4096, 1]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2x4096x256, .f32⟩
  | .hbm, ⟨2, _⟩ => ⟨S2x2048x2048, .f32⟩
  | .hbm, ⟨3, _⟩ => ⟨S2x256x2048, .f32⟩
  | .hbm, ⟨4, _⟩ => ⟨S2x2048, .f32⟩
  | .hbm, ⟨5, _⟩ => ⟨S2x4096x2048, .f32⟩
  | .hbm, ⟨6, _⟩ => ⟨S1x2048x2048, .f32⟩
  | .hbm, ⟨7, _⟩ => ⟨S2048x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S1x2x4096x256, .f32⟩
  | .hbm, ⟨18, _⟩ => ⟨S2x4096x256, .f32⟩
  | .hbm, ⟨19, _⟩ => ⟨S1x256x2048, .f32⟩
  | .hbm, ⟨20, _⟩ => ⟨S256x2048, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x2048, .f32⟩
  | .hbm, ⟨36, _⟩ => ⟨S2x4096x2048, .f32⟩
  | .hbm, ⟨37, _⟩ => ⟨S1x2048, .f32⟩
  | .hbm, ⟨38, _⟩ => ⟨S2048, .f32⟩
  | .hbm, ⟨39, _⟩ => ⟨S1x1x2048, .f32⟩
  | .hbm, ⟨40, _⟩ => ⟨S2x4096x2048, .f32⟩
  | .hbm, ⟨41, _⟩ => ⟨S2x4096x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Rope.lean ====
abbrev S2x4096 : Shape := ⟨2, ![2, 4096]⟩
abbrev S8x128 : Shape := ⟨2, ![8, 128]⟩
abbrev S8192x1 : Shape := ⟨2, ![8192, 1]⟩
abbrev S64 : Shape := ⟨1, ![64]⟩
abbrev S_ : Shape := ⟨0, ![]⟩
abbrev S32 : Shape := ⟨1, ![32]⟩
abbrev S128 : Shape := ⟨1, ![128]⟩
abbrev S1 : Shape := ⟨1, ![1]⟩
abbrev S2 : Shape := ⟨1, ![2]⟩
abbrev S8192x128 : Shape := ⟨2, ![8192, 128]⟩
abbrev S1024x1 : Shape := ⟨2, ![1024, 1]⟩
abbrev S1024x128 : Shape := ⟨2, ![1024, 128]⟩
abbrev S1x128 : Shape := ⟨2, ![1, 128]⟩

abbrev nBuf : Space → Nat
  | .hbm => 37
  | .vmem => 14
  | .smem => 0
  | _ => 0

abbrev bufTy : (tb : Table) → Fin (tcTables nBuf tb) → BufTy
  | .hbm, ⟨0, _⟩ => ⟨S2x4096, .i32⟩
  | .hbm, ⟨1, _⟩ => ⟨S8x128, .f32⟩
  | .hbm, ⟨2, _⟩ => ⟨S8192x1, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S8x128, .f32⟩
  | .hbm, ⟨21, _⟩ => ⟨S128, .f32⟩
  | .hbm, ⟨22, _⟩ => ⟨S_, .i32⟩
  | .hbm, ⟨23, _⟩ => ⟨S1, .i32⟩
  | .hbm, ⟨24, _⟩ => ⟨S8x128, .f32⟩
  | .hbm, ⟨25, _⟩ => ⟨S64, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S8x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S8x128, .f32⟩
  | .local _ .vmem, ⟨3, _⟩ => ⟨S8x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S2x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_c_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RopeRefIdeal.lean ====
abbrev S2x4096 : Shape := ⟨2, ![2, 4096]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S32 : Shape := ⟨1, ![32]⟩
abbrev S1x32 : Shape := ⟨2, ![1, 32]⟩
abbrev S8192x32 : Shape := ⟨2, ![8192, 32]⟩
abbrev S8192x128 : Shape := ⟨2, ![8192, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S8192, .i32⟩
  | .hbm, ⟨2, _⟩ => ⟨S8192, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S8192x1, .f32⟩
  | .hbm, ⟨12, _⟩ => ⟨S1x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S_, .f32⟩
  | .hbm, ⟨30, _⟩ => ⟨S8192x64, .f32⟩
  | .hbm, ⟨31, _⟩ => ⟨S_, .f32⟩
  | .hbm, ⟨32, _⟩ => ⟨S8192x32, .f32⟩
  | .hbm, ⟨33, _⟩ => ⟨S8192x64, .f32⟩
  | .hbm, ⟨34, _⟩ => ⟨S8192x64, .f32⟩
  | .hbm, ⟨35, _⟩ => ⟨S8192x128, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S8192x128, .f32⟩
  | .hbm, ⟨40, _⟩ => ⟨S8192x32, .f32⟩
  | .hbm, ⟨41, _⟩ => ⟨S8192x32, .f32⟩
  | .hbm, ⟨42, _⟩ => ⟨S8192x128, .f32⟩
  | .hbm, ⟨43, _⟩ => ⟨S8192x32, .f32⟩
  | .hbm, ⟨44, _⟩ => ⟨S8192x128, .f32⟩
  | .hbm, ⟨45, _⟩ => ⟨S8192x32, .f32⟩
  | .hbm, ⟨46, _⟩ => ⟨S8192x32, .f32⟩
  | .hbm, ⟨47, _⟩ => ⟨S8192x128, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== InProjT.lean ====
abbrev S8192x2048 : Shape := ⟨2, ![8192, 2048]⟩
abbrev S2x2048 : Shape := ⟨2, ![2, 2048]⟩
abbrev S1x2048x5264 : Shape := ⟨3, ![1, 2048, 5264]⟩
abbrev S8192x128 : Shape := ⟨2, ![8192, 128]⟩
abbrev S1x128 : Shape := ⟨2, ![1, 128]⟩
abbrev S_ : Shape := ⟨0, ![]⟩
abbrev S1x2048x5632 : Shape := ⟨3, ![1, 2048, 5632]⟩
abbrev S1x2048 : Shape := ⟨2, ![1, 2048]⟩
abbrev S2048 : Shape := ⟨1, ![2048]⟩
abbrev S128 : Shape := ⟨1, ![128]⟩
abbrev S64x16x128x128 : Shape := ⟨4, ![64, 16, 128, 128]⟩
abbrev S8192x512 : Shape := ⟨2, ![8192, 512]⟩
abbrev S32x576x256 : Shape := ⟨3, ![32, 576, 256]⟩
abbrev S16x8192 : Shape := ⟨2, ![16, 8192]⟩
abbrev S1024x2048 : Shape := ⟨2, ![1024, 2048]⟩
abbrev S1x2048x512 : Shape := ⟨3, ![1, 2048, 512]⟩
abbrev S1024x128 : Shape := ⟨2, ![1024, 128]⟩
abbrev S8x4x128x128 : Shape := ⟨4, ![8, 4, 128, 128]⟩
abbrev S1024x512 : Shape := ⟨2, ![1024, 512]⟩
abbrev S4x576x256 : Shape := ⟨3, ![4, 576, 256]⟩
abbrev S16x1024 : Shape := ⟨2, ![16, 1024]⟩
abbrev S1024 : Shape := ⟨1, ![1024]⟩
abbrev S1024x1 : Shape := ⟨2, ![1024, 1]⟩
abbrev S2048x512 : Shape := ⟨2, ![2048, 512]⟩
abbrev S8x128x128 : Shape := ⟨3, ![8, 128, 128]⟩
abbrev S8x1x128x128 : Shape := ⟨4, ![8, 1, 128, 128]⟩
abbrev S512x1024 : Shape := ⟨2, ![512, 1024]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩
abbrev S128x1024 : Shape := ⟨2, ![128, 1024]⟩

abbrev nBuf : Space → Nat
  | .hbm => 27
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x5264, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S1x128, .f32⟩
  | .hbm, ⟨9, _⟩ => ⟨S1x128, .f32⟩
  | .hbm, ⟨10, _⟩ => ⟨S1x2048x5264, .bf16⟩
  | .hbm, ⟨11, _⟩ => ⟨S_, .i32⟩
  | .hbm, ⟨12, _⟩ => ⟨S_, .bf16⟩
  | .hbm, ⟨13, _⟩ => ⟨S1x2048x5632, .bf16⟩
  | .hbm, ⟨14, _⟩ => ⟨S1x2048, .f32⟩
  | .hbm, ⟨15, _⟩ => ⟨S2048, .f32⟩
  | .hbm, ⟨16, _⟩ => ⟨S128, .f32⟩
  | .hbm, ⟨17, _⟩ => ⟨S128, .f32⟩
  | .hbm, ⟨18, _⟩ => ⟨S1x2048, .f32⟩
  | .hbm, ⟨19, _⟩ => ⟨S1x128, .f32⟩
  | .hbm, ⟨20, _⟩ => ⟨S1x128, .f32⟩
  | .hbm, ⟨21, _⟩ => ⟨S64x16x128x128, .bf16⟩
  | .hbm, ⟨22, _⟩ => ⟨S8192x512, .bf16⟩
  | .hbm, ⟨23, _⟩ => ⟨S32x576x256, .bf16⟩
  | .hbm, ⟨24, _⟩ => ⟨S64x16x128x128, .bf16⟩
  | .hbm, ⟨25, _⟩ => ⟨S8192x128, .bf16⟩
  | .hbm, ⟨26, _⟩ => ⟨S16x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x128, .f32⟩
  | .local _ .vmem, ⟨16, _⟩ => ⟨S1x128, .f32⟩
  | .local _ .vmem, ⟨17, _⟩ => ⟨S8x4x128x128, .bf16⟩
  | .local _ .vmem, ⟨18, _⟩ => ⟨S8x4x128x128, .bf16⟩
  | .local _ .vmem, ⟨19, _⟩ => ⟨S1024x512, .bf16⟩
  | .local _ .vmem, ⟨20, _⟩ => ⟨S1024x512, .bf16⟩
  | .local _ .vmem, ⟨21, _⟩ => ⟨S4x576x256, .bf16⟩
  | .local _ .vmem, ⟨22, _⟩ => ⟨S4x576x256, .bf16⟩
  | .local _ .vmem, ⟨23, _⟩ => ⟨S8x4x128x128, .bf16⟩
  | .local _ .vmem, ⟨24, _⟩ => ⟨S8x4x128x128, .bf16⟩
  | .local _ .vmem, ⟨25, _⟩ => ⟨S1024x128, .bf16⟩
  | .local _ .vmem, ⟨26, _⟩ => ⟨S1024x128, .bf16⟩
  | .local _ .vmem, ⟨27, _⟩ => ⟨S16x1024, .f32⟩
  | .local _ .vmem, ⟨28, _⟩ => ⟨S16x1024, .f32⟩
  | .local _ .vmem, ⟨29, _⟩ => ⟨S1024x2048, .bf16⟩
  | .local _ .vmem, ⟨30, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 12], ![false, false]⟩

def k0_cond2 (i : grid0.Coords) : BitVec 1 :=
  let arg1 : BitVec 32 := BitVec.ofNat 32 (i 1).val
  let c1_i32 : BitVec 32 := 1#32
  let v3 : BitVec 1 := Scalar.cmpi .sge arg1 c1_i32
  let c4_i32 : BitVec 32 := 4#32
  let v4 : BitVec 1 := Scalar.cmpi .sle arg1 c4_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c5_i32 : BitVec 32 := 5#32
  let v8 : BitVec 1 := Scalar.cmpi .eq arg1 c5_i32
  let v9 : BitVec 32 := Scalar.extui v8
  let c0_i32_2 : BitVec 32 := 0#32
  let v10 : BitVec 1 := Scalar.cmpi .ne v9 c0_i32_2
  v10

def k0_cond4 (i : grid0.Coords) : BitVec 1 :=
  let arg1 : BitVec 32 := BitVec.ofNat 32 (i 1).val
  let c6_i32 : BitVec 32 := 6#32
  let v11 : BitVec 1 := Scalar.cmpi .eq arg1 c6_i32
  let v12 : BitVec 32 := Scalar.extui v11
  let c0_i32_3 : BitVec 32 := 0#32
  let v13 : BitVec 1 := Scalar.cmpi .ne v12 c0_i32_3
  v13

def k0_cond5 (i : grid0.Coords) : BitVec 1 :=
  let arg1 : BitVec 32 := BitVec.ofNat 32 (i 1).val
  let c7_i32 : BitVec 32 := 7#32
  let v14 : BitVec 1 := Scalar.cmpi .sge arg1 c7_i32
  let c10_i32 : BitVec 32 := 10#32
  let v15 : BitVec 1 := Scalar.cmpi .sle arg1 c10_i32
  let v16 : BitVec 1 := Scalar.andi v14 v15
  let v17 : BitVec 32 := Scalar.extui v16
  let c0_i32_4 : BitVec 32 := 0#32
  let v18 : BitVec 1 := Scalar.cmpi .ne v17 c0_i32_4
  v18

def k0_cond6 (i : grid0.Coords) : BitVec 1 :=
  let arg1 : BitVec 32 := BitVec.ofNat 32 (i 1).val
  let c11_i32 : BitVec 32 := 11#32
  let v19 : BitVec 1 := Scalar.cmpi .eq arg1 c11_i32
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![arg0.toNat, v2.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c6_i32 : BitVec 32 := 6#32
  let v1 : BitVec 32 := Scalar.subi v0 c6_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x4x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4x576x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x4x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Proof.ConvTrip.lean ====
/- The depthwise causal convolution's call, over the extended reals: one trip of its loop over the
   sixteen strips of 128 channels. The trip reads the strip of the padded rows and the strip's taps, and stores one strip of sums. -/
module

public import proofs.«01_k».proof.Proof.Gen.ConvIdeal.Frame
public import proofs.«01_k».proof.Proof.Gen.ConvIdeal.Skeleton
public import Idealize.ShloMosaic.Lib.Exec

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One trip at a symbolic strip `k`. It is given the taps `w` and the padded rows `u`. The strip of sums it stores does
    not depend on what the two scratch buffers it writes held before: the staging copy is filled before it is read. The
    witness is the stored strip. -/
@[irreducible] def trip (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole)
    (v184 : FVec F S32x128 .f32) (w : Vec F S16x32x128 .f32) (u : Vec F S16x160x128 .f32) (k : Fin k0_t1_loop.trips) :
    { Y : Vec F S1x128x128 .f32 // ∀ (E : Set ℕ) (f10 : BufTy.Contents (Elt F) arg10.view.ty) (f11 : BufTy.Contents (Elt F) arg11.view.ty),
      (iprop((arg4.view.loc (c : Thread nD τ) ↦[arg4.view.set]{fullShare} harg4.unread w)
          ∗ (arg9.view.loc (c : Thread nD τ) ↦[arg9.view.set]{fullShare} harg9.unread u)
          ∗ (arg10.view.loc (c : Thread nD τ) ↦[arg10.view.set]{fullShare} f10)
          ∗ (arg11.view.loc (c : Thread nD τ) ↦[arg11.view.set]{fullShare} f11)) : sProp 𝕄)
        ⊢ wp frame (wpE (defs₀ (F := F)) Variants.none (c : Thread nD τ) none) E
            (k0_t1_body (F := F) i arg2 harg2 arg3 harg3 arg4 harg4 arg5 harg5 arg6 harg6 arg7 harg7 arg8 harg8 arg9 harg9 arg10 harg10 arg11 harg11 v184 k PUnit.unit)
            (fun _ => iprop((arg4.view.loc (c : Thread nD τ) ↦[arg4.view.set]{fullShare} harg4.unread w)
              ∗ (arg9.view.loc (c : Thread nD τ) ↦[arg9.view.set]{fullShare} harg9.unread u)
              ∗ (arg10.view.loc (c : Thread nD τ) ↦[arg10.view.set]{fullShare} arg10.view.writes (Elt F) f10
                  [⟨Rect.unit (s := S16x128x128) (k0_off43 k) S1x128x128.size (k0_off43_inb k), Y⟩])
              ∗ (∃ f, arg11.view.loc (c : Thread nD τ) ↦[arg11.view.set]{fullShare} f))) } := by
  have hk : k.val < 16 := Nat.lt_of_lt_of_le k.isLt k0_t1_abs.2.1
  refine ⟨?_, fun E f10 f11 => ?run⟩
  case run =>
    unfold k0_t1_body
    iintro ⟨H4, H9, H10, H11⟩
    sl_exec
    sl_step
    isplitl [H4]; · iexact H4
    isplitl [H9]; · iexact H9
    isplitl [H10]; · iexact H10
    iexists _; iexact H11

end Cert.Proof.ConvIdeal

end
-- ==== Proof.ConvRun.lean ====
/- The depthwise causal convolution's call, over the extended reals: the body at one grid point. It fills the
   padded rows, goes through the strips, and normalises the gathered sums. -/
module

public import proofs.«01_k».proof.Proof.ConvTrip
public import Idealize.ShloMosaic.Lib.Pipeline.ValueKit
public import Idealize.ShloMosaic.Lib.WritesUnit
public import Idealize.ShloMosaic.Lib.Pointwise

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sums the loop gathers: strip `p 0`'s trip's, at row `p 1` and lane `p 2`. -/
def sums (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole) (v184 : FVec F S32x128 .f32) (w : Vec F S16x32x128 .f32) (u : Vec F S16x160x128 .f32) :
    Vec F S16x128x128 .f32 := fun p =>
  (trip c i arg2 harg2 arg3 harg3 arg4 harg4 arg5 harg5 arg6 harg6 arg7 harg7 arg8 harg8 arg9 harg9 arg10 harg10 arg11 harg11 v184 w u ⟨(p 0).val, by have := (p 0).isLt; exact this⟩).1 (ix3 0 (p 1) (p 2))

/-- Before strip `k`: the taps and the padded rows as they were, and the gathered sums of the strips before `k`. -/
def inv (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole) (v184 : FVec F S32x128 .f32) (w : Vec F S16x32x128 .f32) (u : Vec F S16x160x128 .f32)
    (k : ℕ) (_ : PUnit) : sProp 𝕄 :=
  iprop((arg4.view.loc (c : Thread nD τ) ↦[arg4.view.set]{fullShare} harg4.unread w) ∗ (arg9.view.loc (c : Thread nD τ) ↦[arg9.view.set]{fullShare} harg9.unread u)
    ∗ (∃ f, (arg10.view.loc (c : Thread nD τ) ↦[arg10.view.set]{fullShare} f) ∗ ⌜∀ p : S16x128x128.Idx, (p 0).val < k → arg10.view.read (Elt F) f p = sums c i arg2 harg2 arg3 harg3 arg4 harg4 arg5 harg5 arg6 harg6 arg7 harg7 arg8 harg8 arg9 harg9 arg10 harg10 arg11 harg11 v184 w u p⌝)
    ∗ (∃ f, (arg11.view.loc (c : Thread nD τ) ↦[arg11.view.set]{fullShare} f)))

/-- One strip's store extends the gathered sums by that strip. -/
theorem step_read (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole) (v184 : FVec F S32x128 .f32) (w : Vec F S16x32x128 .f32) (u : Vec F S16x160x128 .f32)
    (k : Fin k0_t1_loop.trips) (f : BufTy.Contents (Elt F) arg10.view.ty)
    (h : ∀ p : S16x128x128.Idx, (p 0).val < k.val → arg10.view.read (Elt F) f p = sums c i arg2 harg2 arg3 harg3 arg4 harg4 arg5 harg5 arg6 harg6 arg7 harg7 arg8 harg8 arg9 harg9 arg10 harg10 arg11 harg11 v184 w u p)
    (p : S16x128x128.Idx) (hp : (p 0).val < k.val + 1) :
    arg10.view.read (Elt F) (arg10.view.writes (Elt F) f
      [⟨Rect.unit (s := S16x128x128) (k0_off43 k) S1x128x128.size (k0_off43_inb k), (trip c i arg2 harg2 arg3 harg3 arg4 harg4 arg5 harg5 arg6 harg6 arg7 harg7 arg8 harg8 arg9 harg9 arg10 harg10 arg11 harg11 v184 w u k).1⟩]) p
      = sums c i arg2 harg2 arg3 harg3 arg4 harg4 arg5 harg5 arg6 harg6 arg7 harg7 arg8 harg8 arg9 harg9 arg10 harg10 arg11 harg11 v184 w u p := by
  by_cases hk : (p 0).val = k.val
  · have hpk : (⟨(p 0).val, by have := (p 0).isLt; exact this⟩ : Fin k0_t1_loop.trips) = k := Fin.ext hk
    have hs : sums c i arg2 harg2 arg3 harg3 arg4 harg4 arg5 harg5 arg6 harg6 arg7 harg7 arg8 harg8 arg9 harg9 arg10 harg10 arg11 harg11 v184 w u p = (trip c i arg2 harg2 arg3 harg3 arg4 harg4 arg5 harg5 arg6 harg6 arg7 harg7 arg8 harg8 arg9 harg9 arg10 harg10 arg11 harg11 v184 w u k).1 (ix3 0 (p 1) (p 2)) :=
      congrArg (fun q : Fin k0_t1_loop.trips => (trip c i arg2 harg2 arg3 harg3 arg4 harg4 arg5 harg5 arg6 harg6 arg7 harg7 arg8 harg8 arg9 harg9 arg10 harg10 arg11 harg11 v184 w u q).1 (ix3 (0 : Fin 1) (p 1 : Fin 128) (p 2 : Fin 128))) hpk
    rw [hs]
    refine View.read_writes_cons_unit_of_mem arg10.view f (k0_off43_inb k) _ [] p (ix3 0 (p 1) (p 2)) (k0_off43_eq k) fun a => ?_
    fin_cases a
    · show (p 0).val = k.val + 0; omega
    · show (p 1).val = 0 + (p 1).val; omega
    · show (p 2).val = 0 + (p 2).val; omega
  · rw [View.read_writes_apply_of_forall_not_mem, h p (by omega)]
    intro q hq
    obtain rfl := List.mem_singleton.mp hq
    intro hmem
    have h0 := (Rect.mem_set_unit (inb := k0_off43_inb k)).mp hmem (0 : Fin 3)
    rw [k0_off43_eq k] at h0
    have h1 : k.val ≤ (p 0).val ∧ (p 0).val < k.val + 1 := h0
    omega

set_option maxHeartbeats 4000000 in
/-- The body at one grid point: on whole buffers it ends with the staged inputs as they were, the scratch at some
    contents and the output block at the witness, which does not depend on what the scratch held. -/
def kernelRun (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole)
    (x0 : Vec F S1x128x2048 .f32) (x1 : Vec F S1x32x2048 .f32) (x2 : Vec F S16x32x128 .f32) (x3 : Vec F S1x2048 .f32) (x4 : Vec F S1x2048 .f32) (x5 : Vec F S1x2048 .f32) :
    { L : List (View.Piece (Elt F) S1x128x2048 .bf16) // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, (arg8.view.loc (c : Thread nD τ) ↦[arg8.view.set]{fullShare} arg8.view.writes (Elt F) f L)) ∗ (∃ d, owns (c : Thread nD τ) arg9 fullShare d) ∗ (∃ d, owns (c : Thread nD τ) arg10 fullShare d) ∗ (∃ d, owns (c : Thread nD τ) arg11 fullShare d)) -∗ K ⟨⟩))
        ⊢ wp frame (wpE (defs₀ (F := F)) Variants.none c none) E (cc0_dwconv_ln_silu i arg2 harg2 arg3 harg3 arg4 harg4 arg5 harg5 arg6 harg6 arg7 harg7 arg8 harg8 arg9 harg9 arg10 harg10 arg11 harg11) K } := by
  refine ⟨?_, fun E K => ?run⟩
  case run =>
    simp only [cc0_dwconv_ln_silu_eq_skeleton]; unfold cc0_dwconv_ln_silu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    rw [← harg9.unread_read (arg9.view.writes (Elt F) arg9.view.junk (kernelRun.sl.HS0_32 c i arg2 harg2 arg3 harg3 x0 x1))]
    sl_for (inv c i arg2 harg2 arg3 harg3 arg4 harg4 arg5 harg5 arg6 harg6 arg7 harg7 arg8 harg8 arg9 harg9 arg10 harg10 arg11 harg11 (kernelRun.sl.r_5 c i arg3 harg3 x1) x2 (arg9.view.read (Elt F) (arg9.view.writes (Elt F) arg9.view.junk (kernelRun.sl.HS0_32 c i arg2 harg2 arg3 harg3 x0 x1)))) $$ [H2 HS0 HS1 HS2]
    case region =>
      intro k _
      unfold inv
      iintro ⟨H4, H9, ⟨%g10, H10, %hg⟩, ⟨%g11, H11⟩⟩
      iapply (wp_wand_r Idealize.ShloMosaic.frame (wpE (defs₀ (F := F)) Variants.none (c : Thread nD τ) none) E)
      isplitl [H4 H9 H10 H11]
      · iapply ((trip c i arg2 harg2 arg3 harg3 arg4 harg4 arg5 harg5 arg6 harg6 arg7 harg7 arg8 harg8 arg9 harg9 arg10 harg10 arg11 harg11 (kernelRun.sl.r_5 c i arg3 harg3 x1) x2 (arg9.view.read (Elt F) (arg9.view.writes (Elt F) arg9.view.junk (kernelRun.sl.HS0_32 c i arg2 harg2 arg3 harg3 x0 x1))) k).2 E g10 g11)
        isplitl [H4]; · iexact H4
        isplitl [H9]; · iexact H9
        isplitl [H10]; · iexact H10
        iexact H11
      · iintro %_ ⟨H4, H9, H10, H11⟩
        isplitl [H4]; · iexact H4
        isplitl [H9]; · iexact H9
        isplitl [H10]
        · iexists _; isplitl [H10]; · iexact H10
          ipureintro
          exact fun p hp => step_read c i arg2 harg2 arg3 harg3 arg4 harg4 arg5 harg5 arg6 harg6 arg7 harg7 arg8 harg8 arg9 harg9 arg10 harg10 arg11 harg11 _ x2 (arg9.view.read (Elt F) (arg9.view.writes (Elt F) arg9.view.junk (kernelRun.sl.HS0_32 c i arg2 harg2 arg3 harg3 x0 x1))) k g10 hg p hp
        iexact H11
    · unfold inv
      isplitl [H2]; · iexact H2
      isplitl [HS0]; · iexact HS0
      isplitl [HS1]
      · iexists _; isplitl [HS1]; · iexact HS1
        ipureintro; intro p hp; exact absurd hp (Nat.not_lt_zero _)
      iexists _; iexact HS2
    iintro %acc HI
    unfold inv
    icases HI with ⟨H2, HS0, ⟨%g10, HS1, %hg⟩, ⟨%g11, HS2⟩⟩
    obtain rfl : g10 = harg10.unread (sums c i arg2 harg2 arg3 harg3 arg4 harg4 arg5 harg5 arg6 harg6 arg7 harg7 arg8 harg8 arg9 harg9 arg10 harg10 arg11 harg11 (kernelRun.sl.r_5 c i arg3 harg3 x1) x2 (arg9.view.read (Elt F) (arg9.view.writes (Elt F) arg9.view.junk (kernelRun.sl.HS0_32 c i arg2 harg2 arg3 harg3 x0 x1)))) :=
      harg10.eq_unread (funext fun p => hg p (p 0).isLt)
    sl_exec
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; iexact H6
    isplitl [HS0]
    · iexists _; iexists _; isplitr
      swap; · iexact HS0
      ipureintro; rfl
    isplitl [HS1]
    · iexists _; iexists _; isplitr
      swap; · iexact HS1
      ipureintro; rfl
    iexists _; iexists _; isplitr
    swap; · iexact HS2
    ipureintro; rfl

end Cert.Proof.ConvIdeal

end
-- ==== Proof.ConvReads.lean ====
/- The depthwise causal convolution's call, over the extended reals: what a load of a buffer reads. -/
module

public import proofs.«01_k».proof.Proof.Gen.ConvIdeal.Frame
public import Idealize.ShloMosaic.Lib.Pointwise
public import Idealize.ShloMosaic.Lib.WholeRead
public import Idealize.ShloMosaic.Lib.Pipeline.ValueKit

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A load of a whole buffer that holds `X`, through a rectangle, reads `X` at the rectangle's offset. -/
theorem read_unit {s : Shape} (m : Memref sig .tc .vmem s .f32) (h : m.IsWhole) (X : Vec Ideal s .f32) (off size : Fin s.rank → ℕ) (inb)
    (x : (Rect.unit (s := s) off size inb).shape.Idx) (y : s.Idx) (hy : ∀ a, (y a).val = off a + (x a).val) :
    View.readAt (Elt Ideal) m.view (Rect.unit (s := s) off size inb).toLoadRect (h.unread X) x = X y := by
  rw [Memref.IsWhole.readAt_unread]
  refine congrArg X (funext fun a => Fin.ext ?_)
  rw [hy a]
  exact Rect.idx_unit_val off size inb x a

/-- A load of 128 rows of the staging copy, after its 152 rows were stored. -/
theorem stage_read (arg11 : Memref sig .tc .vmem S160x128 .f32) (X : Vec Ideal S152x128 .f32) (L : List (View.Piece (Elt Ideal) S160x128 .f32))
    (a : ℕ) (ha : a + 128 ≤ 152) (inb) (inb') (r l : Fin 128) :
    arg11.view.readCov (⟨Rect.unit (s := S160x128) ![0, 0] S152x128.size inb, X⟩ :: L) (Rect.unit (s := S160x128) ![a, 0] S128x128.size inb').toLoadRect (ix2 r l)
      = X (ix2 ⟨r.val + a, by omega⟩ l) := by
  rw [View.readCov_eq_canon']
  refine Eq.trans (congrArg (View.canon _) ?_) (View.canon_cons_emb (Rect.unit (s := S160x128) ![0, 0] S152x128.size inb) X L (ix2 ⟨r.val + a, by omega⟩ l))
  funext d
  apply Fin.ext
  refine (Rect.idx_unit_val (s := S160x128) ![a, 0] S128x128.size inb' (ix2 r l) d).trans ?_
  refine Eq.trans ?_ (Rect.idx_unit_val (s := S160x128) ![0, 0] S152x128.size inb (ix2 ⟨r.val + a, by omega⟩ l) d).symm
  match d with
  | ⟨0, _⟩ => show a + r.val = 0 + (r.val + a); omega
  | ⟨1, _⟩ => rfl

/-- A load of one row of taps. -/
theorem tap_read (arg4 : Memref sig .tc .vmem S16x32x128 .f32) (harg4 : arg4.IsWhole) (w : Vec Ideal S16x32x128 .f32)
    (k : Fin 16) (b : ℕ) (hb : b < 32) (o : Fin 3 → ℕ) (h : o = ![k.val, b, 0]) (inb) (p q : Fin 1) (l : Fin 128) :
    View.readAt (Elt Ideal) arg4.view (Rect.unit (s := S16x32x128) o S1x1x128.size inb).toLoadRect (harg4.unread w) (ix3 p q l)
      = w (ix3 k ⟨b, hb⟩ l) := by
  subst h
  refine read_unit arg4 harg4 w _ _ _ _ _ fun a => ?_
  match a with
  | ⟨0, _⟩ => show k.val = k.val + p.val; omega
  | ⟨1, _⟩ => show b = b + q.val; omega
  | ⟨2, _⟩ => show l.val = 0 + l.val; omega

/-- A load of 128 of a strip's padded rows. -/
theorem row_read (arg9 : Memref sig .tc .vmem S16x160x128 .f32) (harg9 : arg9.IsWhole) (u : Vec Ideal S16x160x128 .f32)
    (k : Fin 16) (b : ℕ) (hb : b + 128 ≤ 160) (o : Fin 3 → ℕ) (h : o = ![k.val, b, 0]) (inb) (p : Fin 1) (r l : Fin 128) :
    View.readAt (Elt Ideal) arg9.view (Rect.unit (s := S16x160x128) o S1x128x128.size inb).toLoadRect (harg9.unread u) (ix3 p r l)
      = u (ix3 k ⟨r.val + b, by omega⟩ l) := by
  subst h
  refine read_unit arg9 harg9 u _ _ _ _ _ fun a => ?_
  match a with
  | ⟨0, _⟩ => show k.val = k.val + p.val; omega
  | ⟨1, _⟩ => show r.val + b = b + r.val; omega
  | ⟨2, _⟩ => show l.val = 0 + l.val; omega

/-- A load of 152 of a strip's padded rows. -/
theorem rows_read (arg9 : Memref sig .tc .vmem S16x160x128 .f32) (harg9 : arg9.IsWhole) (u : Vec Ideal S16x160x128 .f32)
    (k : Fin 16) (b : ℕ) (hb : b + 152 ≤ 160) (o : Fin 3 → ℕ) (h : o = ![k.val, b, 0]) (inb) (p : Fin 1) (r : Fin 152) (l : Fin 128) :
    View.readAt (Elt Ideal) arg9.view (Rect.unit (s := S16x160x128) o S1x152x128.size inb).toLoadRect (harg9.unread u) (ix3 p r l)
      = u (ix3 k ⟨r.val + b, by omega⟩ l) := by
  subst h
  refine read_unit arg9 harg9 u _ _ _ _ _ fun a => ?_
  match a with
  | ⟨0, _⟩ => show k.val = k.val + p.val; omega
  | ⟨1, _⟩ => show r.val + b = b + r.val; omega
  | ⟨2, _⟩ => show l.val = 0 + l.val; omega

end Cert.Proof.ConvIdeal

end
-- ==== Proof.ConvRows.lean ====
/- The depthwise causal convolution's call, over the extended reals: the rows it sets up before the taps. -/
module

public import proofs.«01_k».proof.Proof.ConvRun
public import proofs.«01_k».proof.Proof.ConvReads
public import Idealize.ShloMosaic.Lib.Pointwise
public import Idealize.ShloMosaic.Lib.WholeRead
public import Idealize.ShloMosaic.Lib.Pipeline.ValueKit

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The padded rows at a point: per strip of 128 channels, thirty-two rows before the block (zeros in a sequence's first
    block), then the block's own 128 rows. -/
def padded (i : grid0.Coords) (xb : Vec Ideal S1x128x2048 .f32) (xh : Vec Ideal S1x32x2048 .f32) : Vec Ideal S16x160x128 .f32 := fun p =>
  if h : (p 1).val < 32 then
    Scalar.select (Scalar.cmpi .eq (BitVec.ofNat 32 (i 1).val) 0#32) (0 : EReal)
     (xh (ix3 0 ⟨(p 1).val, h⟩ ⟨128 * (p 0).val + (p 2).val, by
       have := (p 0).isLt; have := (p 2).isLt; change (p 0).val < 16 at *; change (p 2).val < 128 at *; omega⟩))
  else xb (ix3 0 ⟨(p 1).val - 32, by have := (p 1).isLt; change _ < 160 at this; omega⟩ ⟨128 * (p 0).val + (p 2).val, by
       have := (p 0).isLt; have := (p 2).isLt; change (p 0).val < 16 at *; change (p 2).val < 128 at *; omega⟩)

/-- The rows before the block. -/
theorem padded_halo (i : grid0.Coords) (xb : Vec Ideal S1x128x2048 .f32) (xh : Vec Ideal S1x32x2048 .f32) (y : S16x160x128.Idx)
    (k : ℕ) (a : Fin 32) (l : Fin 128) (j : Fin 2048) (h0 : (y 0).val = k) (h1 : (y 1).val = a.val) (h2 : (y 2).val = l.val) (hj : j.val = 128 * k + l.val) :
    padded i xb xh y = Scalar.select (Scalar.cmpi .eq (BitVec.ofNat 32 (i 1).val) 0#32) (0 : EReal) (xh (ix3 0 a j)) := by
  unfold padded
  rw [dif_pos (by omega)]
  congr 3
  · exact Fin.ext h1
  · exact Fin.ext (by show 128 * (y 0).val + (y 2).val = j.val; omega)

/-- The block's own rows. -/
theorem padded_block (i : grid0.Coords) (xb : Vec Ideal S1x128x2048 .f32) (xh : Vec Ideal S1x32x2048 .f32) (y : S16x160x128.Idx)
    (k : ℕ) (a : Fin 128) (l : Fin 128) (j : Fin 2048) (h0 : (y 0).val = k) (h1 : (y 1).val = 32 + a.val) (h2 : (y 2).val = l.val) (hj : j.val = 128 * k + l.val) :
    padded i xb xh y = xb (ix3 0 a j) := by
  unfold padded
  rw [dif_neg (by omega)]
  congr 2
  · exact Fin.ext (by show (y 1).val - 32 = a.val; omega)
  · exact Fin.ext (by show 128 * (y 0).val + (y 2).val = j.val; omega)

set_option maxHeartbeats 4000000 in
/-- The sixteen strips' stores put the padded rows into the scratch. -/
theorem rows_eq (c : Dev nD) (i : grid0.Coords) (arg2 : Memref sig .tc .vmem S1x128x2048 .f32) (harg2 : arg2.IsWhole)
    (arg3 : Memref sig .tc .vmem S1x32x2048 .f32) (harg3 : arg3.IsWhole) (arg9 : Memref sig .tc .vmem S16x160x128 .f32)
    (xb : Vec Ideal S1x128x2048 .f32) (xh : Vec Ideal S1x32x2048 .f32) :
    arg9.view.read (Elt Ideal) (arg9.view.writes (Elt Ideal) arg9.view.junk (kernelRun.sl.HS0_32 c i arg2 harg2 arg3 harg3 xb xh))
      = padded i xb xh := by
  rw [View.read_writes_eq_canon _ _ _ (fun y => View.cover_of_tiledBy _ ![1, 32, 128] (by sl_kernel_rfl) y)]
  funext y
  unfold kernelRun.sl.HS0_32
  canon_tiles x h using (View.cover_of_tiledBy _ ![1, 32, 128] (by sl_kernel_rfl) y)
  · idx_vars x
    refine Eq.trans ?_ (padded_block i xb xh y 15 x1 x2 ⟨1920 + x2.val, by omega⟩ (by simpa using h0) (by simpa using h1) (by simpa using h2) (by show 1920 + x2.val = 128 * 15 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 15 x1 x2 ⟨1920 + x2.val, by omega⟩ (by simpa using h0) (by simpa using h1) (by simpa using h2) (by show 1920 + x2.val = 128 * 15 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 14 x1 x2 ⟨1792 + x2.val, by omega⟩ (by simpa using h0) (by simpa using h1) (by simpa using h2) (by show 1792 + x2.val = 128 * 14 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 14 x1 x2 ⟨1792 + x2.val, by omega⟩ (by simpa using h0) (by simpa using h1) (by simpa using h2) (by show 1792 + x2.val = 128 * 14 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 13 x1 x2 ⟨1664 + x2.val, by omega⟩ (by simpa using h0) (by simpa using h1) (by simpa using h2) (by show 1664 + x2.val = 128 * 13 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 13 x1 x2 ⟨1664 + x2.val, by omega⟩ (by simpa using h0) (by simpa using h1) (by simpa using h2) (by show 1664 + x2.val = 128 * 13 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 12 x1 x2 ⟨1536 + x2.val, by omega⟩ (by simpa using h0) (by simpa using h1) (by simpa using h2) (by show 1536 + x2.val = 128 * 12 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 12 x1 x2 ⟨1536 + x2.val, by omega⟩ (by simpa using h0) (by simpa using h1) (by simpa using h2) (by show 1536 + x2.val = 128 * 12 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 11 x1 x2 ⟨1408 + x2.val, by omega⟩ (by simpa using h0) (by simpa using h1) (by simpa using h2) (by show 1408 + x2.val = 128 * 11 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 11 x1 x2 ⟨1408 + x2.val, by omega⟩ (by simpa using h0) (by simpa using h1) (by simpa using h2) (by show 1408 + x2.val = 128 * 11 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 10 x1 x2 ⟨1280 + x2.val, by omega⟩ (by simpa using h0) (by simpa using h1) (by simpa using h2) (by show 1280 + x2.val = 128 * 10 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 10 x1 x2 ⟨1280 + x2.val, by omega⟩ (by simpa using h0) (by simpa using h1) (by simpa using h2) (by show 1280 + x2.val = 128 * 10 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 9 x1 x2 ⟨1152 + x2.val, by omega⟩ (by simpa using h0) (by simpa using h1) (by simpa using h2) (by show 1152 + x2.val = 128 * 9 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 9 x1 x2 ⟨1152 + x2.val, by omega⟩ (by simpa using h0) (by simpa using h1) (by simpa using h2) (by show 1152 + x2.val = 128 * 9 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 8 x1 x2 ⟨1024 + x2.val, by omega⟩ (by simpa using h0) (by simpa using h1) (by simpa using h2) (by show 1024 + x2.val = 128 * 8 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 8 x1 x2 ⟨1024 + x2.val, by omega⟩ (by simpa using h0) (by simpa using h1) (by simpa using h2) (by show 1024 + x2.val = 128 * 8 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 7 x1 x2 ⟨896 + x2.val, by omega⟩ (by simpa using h0) (by simpa using h1) (by simpa using h2) (by show 896 + x2.val = 128 * 7 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 7 x1 x2 ⟨896 + x2.val, by omega⟩ (by simpa using h0) (by simpa using h1) (by simpa using h2) (by show 896 + x2.val = 128 * 7 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 6 x1 x2 ⟨768 + x2.val, by omega⟩ (by simpa using h0) (by simpa using h1) (by simpa using h2) (by show 768 + x2.val = 128 * 6 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 6 x1 x2 ⟨768 + x2.val, by omega⟩ (by simpa using h0) (by simpa using h1) (by simpa using h2) (by show 768 + x2.val = 128 * 6 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 5 x1 x2 ⟨640 + x2.val, by omega⟩ (by simpa using h0) (by simpa using h1) (by simpa using h2) (by show 640 + x2.val = 128 * 5 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 5 x1 x2 ⟨640 + x2.val, by omega⟩ (by simpa using h0) (by simpa using h1) (by simpa using h2) (by show 640 + x2.val = 128 * 5 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 4 x1 x2 ⟨512 + x2.val, by omega⟩ (by simpa using h0) (by simpa using h1) (by simpa using h2) (by show 512 + x2.val = 128 * 4 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 4 x1 x2 ⟨512 + x2.val, by omega⟩ (by simpa using h0) (by simpa using h1) (by simpa using h2) (by show 512 + x2.val = 128 * 4 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 3 x1 x2 ⟨384 + x2.val, by omega⟩ (by simpa using h0) (by simpa using h1) (by simpa using h2) (by show 384 + x2.val = 128 * 3 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 3 x1 x2 ⟨384 + x2.val, by omega⟩ (by simpa using h0) (by simpa using h1) (by simpa using h2) (by show 384 + x2.val = 128 * 3 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 2 x1 x2 ⟨256 + x2.val, by omega⟩ (by simpa using h0) (by simpa using h1) (by simpa using h2) (by show 256 + x2.val = 128 * 2 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 2 x1 x2 ⟨256 + x2.val, by omega⟩ (by simpa using h0) (by simpa using h1) (by simpa using h2) (by show 256 + x2.val = 128 * 2 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 1 x1 x2 ⟨128 + x2.val, by omega⟩ (by simpa using h0) (by simpa using h1) (by simpa using h2) (by show 128 + x2.val = 128 * 1 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => rfl
  · idx_vars x
    refine Eq.trans ?_ (padded_halo i xb xh y 1 x1 x2 ⟨128 + x2.val, by omega⟩ (by simpa using h0) (by simpa using h1) (by simpa using h2) (by show 128 + x2.val = 128 * 1 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => rfl
  · idx_vars x
    refine Eq.trans ?_ (padded_block i xb xh y 0 x1 x2 ⟨0 + x2.val, by omega⟩ (by simpa using h0) (by simpa using h1) (by simpa using h2) (by show 0 + x2.val = 128 * 0 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    exact read_unit arg2 harg2 xb _ _ _ _ _ fun a => by match a with | ⟨0, _⟩ => show 0 = 0 + x0.val; omega | ⟨1, _⟩ => show x1.val = 0 + x1.val; omega | ⟨2, _⟩ => show x2.val = 0 + x2.val; omega
  · idx_vars x
    refine Eq.trans ?_ (padded_halo i xb xh y 0 x1 x2 ⟨0 + x2.val, by omega⟩ (by simpa using h0) (by simpa using h1) (by simpa using h2) (by show 0 + x2.val = 128 * 0 + x2.val; omega)).symm
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, kernelRun.sl.r, kernelRun.sl.r_1, kernelRun.sl.r_2, kernelRun.sl.r_3, kernelRun.sl.r_4, kernelRun.sl.r_5, kernelRun.sl.v0]
    congr 1; exact read_unit arg3 harg3 xh _ _ _ _ _ fun a => by match a with | ⟨0, _⟩ => rfl | ⟨1, _⟩ => show x1.val = 0 + x1.val; omega | ⟨2, _⟩ => show x2.val = 0 + x2.val; omega

end Cert.Proof.ConvIdeal

end
-- ==== Proof.ConvTaps.lean ====
/- The depthwise causal convolution's call, over the extended reals: the strip of sums one trip of the loop stores, as the
   sum of its thirty-one products. -/
module

public import proofs.«01_k».proof.Proof.ConvTrip
public import proofs.«01_k».proof.Proof.ConvReads

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Tap `j`'s product at strip `k`, row `r` and lane `l`. -/
def tap (w : Vec Ideal S16x32x128 .f32) (u : Vec Ideal S16x160x128 .f32) (k : Fin 16) (r l : Fin 128) (j : Fin 31) : EReal :=
  u (ix3 k ⟨r.val + (j.val + 2), by omega⟩ l) * w (ix3 k ⟨j.val, by omega⟩ l)

/-- A sum over the thirty-one taps, written out. -/
theorem sum_taps (f : Fin 31 → EReal) :
    ∑ j : Fin 31, f j = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero]
  rfl

set_option maxHeartbeats 8000000 in
/-- The strip a trip stores, at row `r` and lane `l`: zero, and the thirty-one products added in the kernel's order. -/
theorem trip_apply (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole)
    (v184 : FVec Ideal S32x128 .f32) (w : Vec Ideal S16x32x128 .f32) (u : Vec Ideal S16x160x128 .f32) (k : Fin 16) (r l : Fin 128) :
    (trip c i arg2 harg2 arg3 harg3 arg4 harg4 arg5 harg5 arg6 harg6 arg7 harg7 arg8 harg8 arg9 harg9 arg10 harg10 arg11 harg11 v184 w u k).1 (ix3 (0 : Fin 1) r l) =
      (0 : EReal)
      + tap w u k r l 6
      + tap w u k r l 14
      + tap w u k r l 22
      + tap w u k r l 30
      + tap w u k r l 7
      + tap w u k r l 15
      + tap w u k r l 23
      + tap w u k r l 0
      + tap w u k r l 8
      + tap w u k r l 16
      + tap w u k r l 24
      + tap w u k r l 1
      + tap w u k r l 9
      + tap w u k r l 17
      + tap w u k r l 25
      + tap w u k r l 2
      + tap w u k r l 10
      + tap w u k r l 18
      + tap w u k r l 26
      + tap w u k r l 3
      + tap w u k r l 11
      + tap w u k r l 19
      + tap w u k r l 27
      + tap w u k r l 4
      + tap w u k r l 12
      + tap w u k r l 20
      + tap w u k r l 28
      + tap w u k r l 5
      + tap w u k r l 13
      + tap w u k r l 21
      + tap w u k r l 29 := by
  unfold trip
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay56, trip.sl.r_3, trip.sl.r_8, trip.sl.v372, trip.sl.H11_1, trip.sl.v365, trip.sl.v488, trip.sl.v413, trip.sl.v522, trip.sl.v304, trip.sl.v399, trip.sl.v467, trip.sl.v501, trip.sl.H11_3, trip.sl.v474, trip.sl.v508, trip.sl.v352, trip.sl.H11_2, trip.sl.v454, trip.sl.H11_6, trip.sl.v318, trip.sl.v379, trip.sl.v406, trip.sl.r_4, trip.sl.v420, trip.sl.H11_5, trip.sl.r_9, trip.sl.r_6, trip.sl.v331, trip.sl.r_7, trip.sl.v338, trip.sl.r_10, trip.sl.v440, trip.sl.v481, trip.sl.H11_7, trip.sl.v447, trip.sl.v515, trip.sl.v345, trip.sl.H11_4, trip.sl.v433, trip.sl.r, trip.sl.r_1, trip.sl.v311, trip.sl.v386, trip.sl.r_2, trip.sl.r_5]
  simp only [stage_read arg11 _ _ 0 (by omega), stage_read arg11 _ _ 8 (by omega), stage_read arg11 _ _ 16 (by omega), stage_read arg11 _ _ 24 (by omega)]
  pointwise []
  simp only [tap_read arg4 harg4 w k 6 (by omega) _ (k0_off2_eq k), tap_read arg4 harg4 w k 14 (by omega) _ (k0_off4_eq k), tap_read arg4 harg4 w k 22 (by omega) _ (k0_off6_eq k), tap_read arg4 harg4 w k 30 (by omega) _ (k0_off8_eq k), tap_read arg4 harg4 w k 7 (by omega) _ (k0_off10_eq k), tap_read arg4 harg4 w k 15 (by omega) _ (k0_off11_eq k), tap_read arg4 harg4 w k 23 (by omega) _ (k0_off12_eq k), tap_read arg4 harg4 w k 0 (by omega) _ (k0_off14_eq k), tap_read arg4 harg4 w k 8 (by omega) _ (k0_off15_eq k), tap_read arg4 harg4 w k 16 (by omega) _ (k0_off16_eq k), tap_read arg4 harg4 w k 24 (by omega) _ (k0_off17_eq k), tap_read arg4 harg4 w k 1 (by omega) _ (k0_off19_eq k), tap_read arg4 harg4 w k 9 (by omega) _ (k0_off20_eq k), tap_read arg4 harg4 w k 17 (by omega) _ (k0_off21_eq k), tap_read arg4 harg4 w k 25 (by omega) _ (k0_off22_eq k), tap_read arg4 harg4 w k 2 (by omega) _ (k0_off24_eq k), tap_read arg4 harg4 w k 10 (by omega) _ (k0_off25_eq k), tap_read arg4 harg4 w k 18 (by omega) _ (k0_off26_eq k), tap_read arg4 harg4 w k 26 (by omega) _ (k0_off27_eq k), tap_read arg4 harg4 w k 3 (by omega) _ (k0_off29_eq k), tap_read arg4 harg4 w k 11 (by omega) _ (k0_off30_eq k), tap_read arg4 harg4 w k 19 (by omega) _ (k0_off31_eq k), tap_read arg4 harg4 w k 27 (by omega) _ (k0_off32_eq k), tap_read arg4 harg4 w k 4 (by omega) _ (k0_off34_eq k), tap_read arg4 harg4 w k 12 (by omega) _ (k0_off35_eq k), tap_read arg4 harg4 w k 20 (by omega) _ (k0_off36_eq k), tap_read arg4 harg4 w k 28 (by omega) _ (k0_off37_eq k), tap_read arg4 harg4 w k 5 (by omega) _ (k0_off39_eq k), tap_read arg4 harg4 w k 13 (by omega) _ (k0_off40_eq k), tap_read arg4 harg4 w k 21 (by omega) _ (k0_off41_eq k), tap_read arg4 harg4 w k 29 (by omega) _ (k0_off42_eq k), row_read arg9 harg9 u k 8 (by omega) _ (k0_off1_eq k), row_read arg9 harg9 u k 16 (by omega) _ (k0_off3_eq k), row_read arg9 harg9 u k 24 (by omega) _ (k0_off5_eq k), row_read arg9 harg9 u k 32 (by omega) _ (k0_off7_eq k), rows_read arg9 harg9 u k 1 (by omega) _ (k0_off9_eq k), rows_read arg9 harg9 u k 2 (by omega) _ (k0_off13_eq k), rows_read arg9 harg9 u k 3 (by omega) _ (k0_off18_eq k), rows_read arg9 harg9 u k 4 (by omega) _ (k0_off23_eq k), rows_read arg9 harg9 u k 5 (by omega) _ (k0_off28_eq k), rows_read arg9 harg9 u k 6 (by omega) _ (k0_off33_eq k), rows_read arg9 harg9 u k 7 (by omega) _ (k0_off38_eq k)]
  rfl

/-- The same, as one sum over the taps. -/
theorem trip_sum (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole)
    (v184 : FVec Ideal S32x128 .f32) (w : Vec Ideal S16x32x128 .f32) (u : Vec Ideal S16x160x128 .f32) (k : Fin 16) (r l : Fin 128) :
    (trip c i arg2 harg2 arg3 harg3 arg4 harg4 arg5 harg5 arg6 harg6 arg7 harg7 arg8 harg8 arg9 harg9 arg10 harg10 arg11 harg11 v184 w u k).1 (ix3 (0 : Fin 1) r l) = ∑ j : Fin 31, tap w u k r l j := by
  rw [trip_apply]
  rw [sum_taps]
  abel

end Cert.Proof.ConvIdeal

end
-- ==== Proof.ConvBlock.lean ====
/- The depthwise causal convolution's call, over the extended reals: the lines after the loop, as
   functions of the sixteen strips of sums. -/
module

public import proofs.«01_k».proof.Proof.ConvReads
public import proofs.«01_k».proof.Proof.Gen.ConvIdeal.Skeleton

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The sixteen strips side by side: column `128 k + l` is lane `l` of strip `k`. -/
def beside (Y : Vec Ideal S16x128x128 .f32) : FVec Ideal S128x2048 .f32 := fun p =>
  Y (ix3 ⟨(p 1).val / 128, by have := (p 1).isLt; change _ < 2048 at this; omega⟩ (p 0) ⟨(p 1).val % 128, by omega⟩)

/-- A strip's load, read at a column of the whole. -/
theorem strip_read (arg10 : Memref sig .tc .vmem S16x128x128 .f32) (harg10 : arg10.IsWhole) (Y : Vec Ideal S16x128x128 .f32)
    (k : ℕ) (inb) (r : Fin 128) (c : Fin 2048) (hc : c.val / 128 = k) (l : Fin 128) (hl : l.val = c.val - 128 * k) (p : Fin 1) :
    View.readAt (Elt Ideal) arg10.view (Rect.unit (s := S16x128x128) ![k, 0, 0] S1x128x128.size inb).toLoadRect (harg10.unread Y) (ix3 p r l)
      = beside Y (ix2 r c) := by
  refine read_unit arg10 harg10 Y _ _ _ _ _ fun a => ?_
  match a with
  | ⟨0, _⟩ => show c.val / 128 = k + p.val; omega
  | ⟨1, _⟩ => show r.val = 0 + r.val; omega
  | ⟨2, _⟩ => show c.val % 128 = 0 + l.val; omega

/-- Sixteen pieces of 128 columns side by side, read at one place. -/
theorem side_by_side (x : Fin 16 → FVec Ideal S128x128 .f32) (L : List ((s : Shape) × (s.Idx → EReal)))
    (hL : L = List.ofFn fun n : Fin 16 => (⟨S128x128, x n⟩ : (s : Shape) × (s.Idx → EReal))) (h) (r : Fin 128) (c : Fin 2048) :
    concatenate S128x2048 1 L h (ix2 r c) = x ⟨c.val / 128, by omega⟩ (ix2 r ⟨c.val % 128, by omega⟩) := by
  subst hL
  exact concatenate_ofFn_apply (t := S128x2048) (s₁ := S128x128) (1 : Fin 2) x h rfl 128 rfl (ix2 r c) ⟨c.val / 128, by omega⟩ rfl
    (ix2 r ⟨c.val % 128, by omega⟩) rfl (fun b hb => by match b with | ⟨0, _⟩ => rfl | ⟨1, _⟩ => exact absurd rfl hb)

/-- Sixteen pieces side by side are the array whose columns they are. -/
theorem pieces_beside (y0 y1 y2 y3 y4 y5 y6 y7 y8 y9 y10 y11 y12 y13 y14 y15 : FVec Ideal S128x128 .f32) (S : FVec Ideal S128x2048 .f32) (h)
    (hy : ∀ (n : Fin 16) (r : Fin 128) (c : Fin 2048) (l : Fin 128), c.val / 128 = n.val → l.val = c.val - 128 * n.val →
      (![y0, y1, y2, y3, y4, y5, y6, y7, y8, y9, y10, y11, y12, y13, y14, y15] : Fin 16 → FVec Ideal S128x128 .f32) n (ix2 r l) = S (ix2 r c)) :
    concatenate S128x2048 1 [⟨S128x128, y0⟩, ⟨S128x128, y1⟩, ⟨S128x128, y2⟩, ⟨S128x128, y3⟩, ⟨S128x128, y4⟩, ⟨S128x128, y5⟩, ⟨S128x128, y6⟩, ⟨S128x128, y7⟩, ⟨S128x128, y8⟩, ⟨S128x128, y9⟩, ⟨S128x128, y10⟩, ⟨S128x128, y11⟩, ⟨S128x128, y12⟩, ⟨S128x128, y13⟩, ⟨S128x128, y14⟩, ⟨S128x128, y15⟩] h = S := by
  funext p
  idx_vars p
  refine (side_by_side ![y0, y1, y2, y3, y4, y5, y6, y7, y8, y9, y10, y11, y12, y13, y14, y15] _ rfl h p0 p1).trans ?_
  exact hy _ p0 p1 _ rfl (by show p1.val % 128 = p1.val - 128 * (p1.val / 128); omega)

/-- A leading axis of extent one dropped. -/
theorem dropped (v : Vec Ideal S1x128x128 .f32) (r l : Fin 128) :
    (shapeCast S128x128 v shapeCasts_S1x128x128_S128x128 : FVec Ideal S128x128 .f32) (ix2 r l) = v (ix3 0 r l) := by
  pointwise []

/-- A strip's load as one piece, read at a column of the whole. -/
theorem piece_read (arg10 : Memref sig .tc .vmem S16x128x128 .f32) (harg10 : arg10.IsWhole) (Y : Vec Ideal S16x128x128 .f32)
    (k : ℕ) (inb) (r : Fin 128) (c : Fin 2048) (hc : c.val / 128 = k) (l : Fin 128) (hl : l.val = c.val - 128 * k) :
    (shapeCast S128x128 (View.readAt (Elt Ideal) arg10.view (Rect.unit (s := S16x128x128) ![k, 0, 0] S1x128x128.size inb).toLoadRect (harg10.unread Y)) shapeCasts_S1x128x128_S128x128 : FVec Ideal S128x128 .f32) (ix2 r l)
      = beside Y (ix2 r c) :=
  (dropped _ r l).trans (strip_read arg10 harg10 Y k inb r c hc l hl 0)

set_option maxHeartbeats 1000000 in
/-- The concatenation of the sixteen loads. -/
theorem beside_eq (arg10 : Memref sig .tc .vmem S16x128x128 .f32) (harg10 : arg10.IsWhole) (Y : Vec Ideal S16x128x128 .f32) (h) :
    concatenate S128x2048 1 [⟨S128x128, shapeCast S128x128 (View.readAt (Elt Ideal) arg10.view (Rect.unit (s := S16x128x128) ![0, 0, 0] S1x128x128.size inb_S16x128x128_S1x128x128_0_0_0).toLoadRect (harg10.unread Y)) shapeCasts_S1x128x128_S128x128⟩, ⟨S128x128, shapeCast S128x128 (View.readAt (Elt Ideal) arg10.view (Rect.unit (s := S16x128x128) ![1, 0, 0] S1x128x128.size inb_S16x128x128_S1x128x128_1_0_0).toLoadRect (harg10.unread Y)) shapeCasts_S1x128x128_S128x128⟩, ⟨S128x128, shapeCast S128x128 (View.readAt (Elt Ideal) arg10.view (Rect.unit (s := S16x128x128) ![2, 0, 0] S1x128x128.size inb_S16x128x128_S1x128x128_2_0_0).toLoadRect (harg10.unread Y)) shapeCasts_S1x128x128_S128x128⟩, ⟨S128x128, shapeCast S128x128 (View.readAt (Elt Ideal) arg10.view (Rect.unit (s := S16x128x128) ![3, 0, 0] S1x128x128.size inb_S16x128x128_S1x128x128_3_0_0).toLoadRect (harg10.unread Y)) shapeCasts_S1x128x128_S128x128⟩, ⟨S128x128, shapeCast S128x128 (View.readAt (Elt Ideal) arg10.view (Rect.unit (s := S16x128x128) ![4, 0, 0] S1x128x128.size inb_S16x128x128_S1x128x128_4_0_0).toLoadRect (harg10.unread Y)) shapeCasts_S1x128x128_S128x128⟩, ⟨S128x128, shapeCast S128x128 (View.readAt (Elt Ideal) arg10.view (Rect.unit (s := S16x128x128) ![5, 0, 0] S1x128x128.size inb_S16x128x128_S1x128x128_5_0_0).toLoadRect (harg10.unread Y)) shapeCasts_S1x128x128_S128x128⟩, ⟨S128x128, shapeCast S128x128 (View.readAt (Elt Ideal) arg10.view (Rect.unit (s := S16x128x128) ![6, 0, 0] S1x128x128.size inb_S16x128x128_S1x128x128_6_0_0).toLoadRect (harg10.unread Y)) shapeCasts_S1x128x128_S128x128⟩, ⟨S128x128, shapeCast S128x128 (View.readAt (Elt Ideal) arg10.view (Rect.unit (s := S16x128x128) ![7, 0, 0] S1x128x128.size inb_S16x128x128_S1x128x128_7_0_0).toLoadRect (harg10.unread Y)) shapeCasts_S1x128x128_S128x128⟩, ⟨S128x128, shapeCast S128x128 (View.readAt (Elt Ideal) arg10.view (Rect.unit (s := S16x128x128) ![8, 0, 0] S1x128x128.size inb_S16x128x128_S1x128x128_8_0_0).toLoadRect (harg10.unread Y)) shapeCasts_S1x128x128_S128x128⟩, ⟨S128x128, shapeCast S128x128 (View.readAt (Elt Ideal) arg10.view (Rect.unit (s := S16x128x128) ![9, 0, 0] S1x128x128.size inb_S16x128x128_S1x128x128_9_0_0).toLoadRect (harg10.unread Y)) shapeCasts_S1x128x128_S128x128⟩, ⟨S128x128, shapeCast S128x128 (View.readAt (Elt Ideal) arg10.view (Rect.unit (s := S16x128x128) ![10, 0, 0] S1x128x128.size inb_S16x128x128_S1x128x128_10_0_0).toLoadRect (harg10.unread Y)) shapeCasts_S1x128x128_S128x128⟩, ⟨S128x128, shapeCast S128x128 (View.readAt (Elt Ideal) arg10.view (Rect.unit (s := S16x128x128) ![11, 0, 0] S1x128x128.size inb_S16x128x128_S1x128x128_11_0_0).toLoadRect (harg10.unread Y)) shapeCasts_S1x128x128_S128x128⟩, ⟨S128x128, shapeCast S128x128 (View.readAt (Elt Ideal) arg10.view (Rect.unit (s := S16x128x128) ![12, 0, 0] S1x128x128.size inb_S16x128x128_S1x128x128_12_0_0).toLoadRect (harg10.unread Y)) shapeCasts_S1x128x128_S128x128⟩, ⟨S128x128, shapeCast S128x128 (View.readAt (Elt Ideal) arg10.view (Rect.unit (s := S16x128x128) ![13, 0, 0] S1x128x128.size inb_S16x128x128_S1x128x128_13_0_0).toLoadRect (harg10.unread Y)) shapeCasts_S1x128x128_S128x128⟩, ⟨S128x128, shapeCast S128x128 (View.readAt (Elt Ideal) arg10.view (Rect.unit (s := S16x128x128) ![14, 0, 0] S1x128x128.size inb_S16x128x128_S1x128x128_14_0_0).toLoadRect (harg10.unread Y)) shapeCasts_S1x128x128_S128x128⟩, ⟨S128x128, shapeCast S128x128 (View.readAt (Elt Ideal) arg10.view (Rect.unit (s := S16x128x128) ![15, 0, 0] S1x128x128.size inb_S16x128x128_S1x128x128_15_0_0).toLoadRect (harg10.unread Y)) shapeCasts_S1x128x128_S128x128⟩] h
      = beside Y := by
  refine pieces_beside _ _ _ _ _ _ _ _ _ _ _ _ _ _ _ _ (beside Y) h fun n r c l hc hl => ?_
  match n with
  | ⟨0, _⟩ => exact piece_read arg10 harg10 Y 0 _ r c hc l hl
  | ⟨1, _⟩ => exact piece_read arg10 harg10 Y 1 _ r c hc l hl
  | ⟨2, _⟩ => exact piece_read arg10 harg10 Y 2 _ r c hc l hl
  | ⟨3, _⟩ => exact piece_read arg10 harg10 Y 3 _ r c hc l hl
  | ⟨4, _⟩ => exact piece_read arg10 harg10 Y 4 _ r c hc l hl
  | ⟨5, _⟩ => exact piece_read arg10 harg10 Y 5 _ r c hc l hl
  | ⟨6, _⟩ => exact piece_read arg10 harg10 Y 6 _ r c hc l hl
  | ⟨7, _⟩ => exact piece_read arg10 harg10 Y 7 _ r c hc l hl
  | ⟨8, _⟩ => exact piece_read arg10 harg10 Y 8 _ r c hc l hl
  | ⟨9, _⟩ => exact piece_read arg10 harg10 Y 9 _ r c hc l hl
  | ⟨10, _⟩ => exact piece_read arg10 harg10 Y 10 _ r c hc l hl
  | ⟨11, _⟩ => exact piece_read arg10 harg10 Y 11 _ r c hc l hl
  | ⟨12, _⟩ => exact piece_read arg10 harg10 Y 12 _ r c hc l hl
  | ⟨13, _⟩ => exact piece_read arg10 harg10 Y 13 _ r c hc l hl
  | ⟨14, _⟩ => exact piece_read arg10 harg10 Y 14 _ r c hc l hl
  | ⟨15, _⟩ => exact piece_read arg10 harg10 Y 15 _ r c hc l hl
  | ⟨n + 16, hn⟩ => exact absurd hn (by omega)

/-- The sums `S` with the bias added, less their row's mean. -/
def centred (S : FVec Ideal S128x2048 .f32) (b : Vec Ideal S1x2048 .f32) (r : Fin 128) (q : Fin 2048) : EReal :=
  S (ix2 r q) + b (ix2 0 q) - Ideal.div (∑ x : Fin 2048, (S (ix2 r x) + b (ix2 0 x))) (Ideal.ofBits FTy.f32 1157627904#32)

/-- The same scaled by its row's variance, with the affine map of the normalisation. -/
def normed (S : FVec Ideal S128x2048 .f32) (b g e : Vec Ideal S1x2048 .f32) (r : Fin 128) (q : Fin 2048) : EReal :=
  centred S b r q
      * Ideal.rsqrt (Ideal.div (∑ x : Fin 2048, centred S b r x * centred S b r x) (Ideal.ofBits FTy.f32 1157627904#32) + Ideal.ofBits FTy.f32 925353388#32)
      * g (ix2 0 q) + e (ix2 0 q)

/-- What the point stores, at a row and a column. -/
def finished (S : FVec Ideal S128x2048 .f32) (b g e : Vec Ideal S1x2048 .f32) (r : Fin 128) (q : Fin 2048) : EReal :=
  normed S b g e r q * Ideal.logistic (normed S b g e r q)

theorem centred_eq (arg10 : Memref sig .tc .vmem S16x128x128 .f32) (harg10 : arg10.IsWhole) (Y : Vec Ideal S16x128x128 .f32) (b : Vec Ideal S1x2048 .f32) :
    k0_pay64 (k0_pay57 (View.readAt (Elt Ideal) arg10.view (Rect.unit (s := S16x128x128) ![0, 0, 0] S1x128x128.size inb_S16x128x128_S1x128x128_0_0_0).toLoadRect (harg10.unread Y))) (k0_pay58 (View.readAt (Elt Ideal) arg10.view (Rect.unit (s := S16x128x128) ![1, 0, 0] S1x128x128.size inb_S16x128x128_S1x128x128_1_0_0).toLoadRect (harg10.unread Y))) (k0_pay59 (View.readAt (Elt Ideal) arg10.view (Rect.unit (s := S16x128x128) ![2, 0, 0] S1x128x128.size inb_S16x128x128_S1x128x128_2_0_0).toLoadRect (harg10.unread Y))) (k0_pay60 (View.readAt (Elt Ideal) arg10.view (Rect.unit (s := S16x128x128) ![3, 0, 0] S1x128x128.size inb_S16x128x128_S1x128x128_3_0_0).toLoadRect (harg10.unread Y))) (k0_pay61 (View.readAt (Elt Ideal) arg10.view (Rect.unit (s := S16x128x128) ![4, 0, 0] S1x128x128.size inb_S16x128x128_S1x128x128_4_0_0).toLoadRect (harg10.unread Y))) (k0_pay62 (View.readAt (Elt Ideal) arg10.view (Rect.unit (s := S16x128x128) ![5, 0, 0] S1x128x128.size inb_S16x128x128_S1x128x128_5_0_0).toLoadRect (harg10.unread Y))) (k0_pay63 (View.readAt (Elt Ideal) arg10.view (Rect.unit (s := S16x128x128) ![6, 0, 0] S1x128x128.size inb_S16x128x128_S1x128x128_6_0_0).toLoadRect (harg10.unread Y))) (View.readAt (Elt Ideal) arg10.view (Rect.unit (s := S16x128x128) ![7, 0, 0] S1x128x128.size inb_S16x128x128_S1x128x128_7_0_0).toLoadRect (harg10.unread Y)) (View.readAt (Elt Ideal) arg10.view (Rect.unit (s := S16x128x128) ![8, 0, 0] S1x128x128.size inb_S16x128x128_S1x128x128_8_0_0).toLoadRect (harg10.unread Y)) (View.readAt (Elt Ideal) arg10.view (Rect.unit (s := S16x128x128) ![9, 0, 0] S1x128x128.size inb_S16x128x128_S1x128x128_9_0_0).toLoadRect (harg10.unread Y)) (View.readAt (Elt Ideal) arg10.view (Rect.unit (s := S16x128x128) ![10, 0, 0] S1x128x128.size inb_S16x128x128_S1x128x128_10_0_0).toLoadRect (harg10.unread Y)) (View.readAt (Elt Ideal) arg10.view (Rect.unit (s := S16x128x128) ![11, 0, 0] S1x128x128.size inb_S16x128x128_S1x128x128_11_0_0).toLoadRect (harg10.unread Y)) (View.readAt (Elt Ideal) arg10.view (Rect.unit (s := S16x128x128) ![12, 0, 0] S1x128x128.size inb_S16x128x128_S1x128x128_12_0_0).toLoadRect (harg10.unread Y)) (View.readAt (Elt Ideal) arg10.view (Rect.unit (s := S16x128x128) ![13, 0, 0] S1x128x128.size inb_S16x128x128_S1x128x128_13_0_0).toLoadRect (harg10.unread Y)) (View.readAt (Elt Ideal) arg10.view (Rect.unit (s := S16x128x128) ![14, 0, 0] S1x128x128.size inb_S16x128x128_S1x128x128_14_0_0).toLoadRect (harg10.unread Y)) (View.readAt (Elt Ideal) arg10.view (Rect.unit (s := S16x128x128) ![15, 0, 0] S1x128x128.size inb_S16x128x128_S1x128x128_15_0_0).toLoadRect (harg10.unread Y)) b = fun p => centred (beside Y) b (p 0) (p 1) := by
  unfold k0_pay64 k0_pay57 k0_pay58 k0_pay59 k0_pay60 k0_pay61 k0_pay62 k0_pay63
  dsimp only
  rw [beside_eq]
  generalize beside Y = S
  funext p
  idx_vars p
  pointwise [centred]

theorem squares_eq (arg10 : Memref sig .tc .vmem S16x128x128 .f32) (harg10 : arg10.IsWhole) (Y : Vec Ideal S16x128x128 .f32) (b : Vec Ideal S1x2048 .f32) :
    k0_pay65 (k0_pay57 (View.readAt (Elt Ideal) arg10.view (Rect.unit (s := S16x128x128) ![0, 0, 0] S1x128x128.size inb_S16x128x128_S1x128x128_0_0_0).toLoadRect (harg10.unread Y))) (k0_pay58 (View.readAt (Elt Ideal) arg10.view (Rect.unit (s := S16x128x128) ![1, 0, 0] S1x128x128.size inb_S16x128x128_S1x128x128_1_0_0).toLoadRect (harg10.unread Y))) (k0_pay59 (View.readAt (Elt Ideal) arg10.view (Rect.unit (s := S16x128x128) ![2, 0, 0] S1x128x128.size inb_S16x128x128_S1x128x128_2_0_0).toLoadRect (harg10.unread Y))) (k0_pay60 (View.readAt (Elt Ideal) arg10.view (Rect.unit (s := S16x128x128) ![3, 0, 0] S1x128x128.size inb_S16x128x128_S1x128x128_3_0_0).toLoadRect (harg10.unread Y))) (k0_pay61 (View.readAt (Elt Ideal) arg10.view (Rect.unit (s := S16x128x128) ![4, 0, 0] S1x128x128.size inb_S16x128x128_S1x128x128_4_0_0).toLoadRect (harg10.unread Y))) (k0_pay62 (View.readAt (Elt Ideal) arg10.view (Rect.unit (s := S16x128x128) ![5, 0, 0] S1x128x128.size inb_S16x128x128_S1x128x128_5_0_0).toLoadRect (harg10.unread Y))) (k0_pay63 (View.readAt (Elt Ideal) arg10.view (Rect.unit (s := S16x128x128) ![6, 0, 0] S1x128x128.size inb_S16x128x128_S1x128x128_6_0_0).toLoadRect (harg10.unread Y))) (View.readAt (Elt Ideal) arg10.view (Rect.unit (s := S16x128x128) ![7, 0, 0] S1x128x128.size inb_S16x128x128_S1x128x128_7_0_0).toLoadRect (harg10.unread Y)) (View.readAt (Elt Ideal) arg10.view (Rect.unit (s := S16x128x128) ![8, 0, 0] S1x128x128.size inb_S16x128x128_S1x128x128_8_0_0).toLoadRect (harg10.unread Y)) (View.readAt (Elt Ideal) arg10.view (Rect.unit (s := S16x128x128) ![9, 0, 0] S1x128x128.size inb_S16x128x128_S1x128x128_9_0_0).toLoadRect (harg10.unread Y)) (View.readAt (Elt Ideal) arg10.view (Rect.unit (s := S16x128x128) ![10, 0, 0] S1x128x128.size inb_S16x128x128_S1x128x128_10_0_0).toLoadRect (harg10.unread Y)) (View.readAt (Elt Ideal) arg10.view (Rect.unit (s := S16x128x128) ![11, 0, 0] S1x128x128.size inb_S16x128x128_S1x128x128_11_0_0).toLoadRect (harg10.unread Y)) (View.readAt (Elt Ideal) arg10.view (Rect.unit (s := S16x128x128) ![12, 0, 0] S1x128x128.size inb_S16x128x128_S1x128x128_12_0_0).toLoadRect (harg10.unread Y)) (View.readAt (Elt Ideal) arg10.view (Rect.unit (s := S16x128x128) ![13, 0, 0] S1x128x128.size inb_S16x128x128_S1x128x128_13_0_0).toLoadRect (harg10.unread Y)) (View.readAt (Elt Ideal) arg10.view (Rect.unit (s := S16x128x128) ![14, 0, 0] S1x128x128.size inb_S16x128x128_S1x128x128_14_0_0).toLoadRect (harg10.unread Y)) (View.readAt (Elt Ideal) arg10.view (Rect.unit (s := S16x128x128) ![15, 0, 0] S1x128x128.size inb_S16x128x128_S1x128x128_15_0_0).toLoadRect (harg10.unread Y)) b = fun p => ∑ x : Fin 2048, centred (beside Y) b (p 0) x * centred (beside Y) b (p 0) x := by
  unfold k0_pay65
  dsimp only
  rw [centred_eq]
  generalize centred (beside Y) b = S
  funext p
  idx_vars p
  pointwise []

theorem last_eq (X : Fin 128 → Fin 2048 → EReal) (g e : Vec Ideal S1x2048 .f32) (p : Fin 1) (r : Fin 128) (q : Fin 2048) :
    k0_pay1 (F := Ideal) (fun p => X (p 0) (p 1)) (fun p => ∑ x : Fin 2048, X (p 0) x * X (p 0) x) g e (ix3 p r q)
      = (X r q * Ideal.rsqrt (Ideal.div (∑ x : Fin 2048, X r x * X r x) (Ideal.ofBits FTy.f32 1157627904#32) + Ideal.ofBits FTy.f32 925353388#32)
          * g (ix2 0 q) + e (ix2 0 q))
        * Ideal.logistic (X r q * Ideal.rsqrt (Ideal.div (∑ x : Fin 2048, X r x * X r x) (Ideal.ofBits FTy.f32 1157627904#32) + Ideal.ofBits FTy.f32 925353388#32)
          * g (ix2 0 q) + e (ix2 0 q)) := by
  pointwise [k0_pay1]

/-- The stored block, from the strips of sums `Y`. -/
theorem stored_eq (arg10 : Memref sig .tc .vmem S16x128x128 .f32) (harg10 : arg10.IsWhole) (Y : Vec Ideal S16x128x128 .f32) (b g e : Vec Ideal S1x2048 .f32)
    (p : Fin 1) (r : Fin 128) (q : Fin 2048) :
    k0_pay1 (k0_pay64 (k0_pay57 (View.readAt (Elt Ideal) arg10.view (Rect.unit (s := S16x128x128) ![0, 0, 0] S1x128x128.size inb_S16x128x128_S1x128x128_0_0_0).toLoadRect (harg10.unread Y))) (k0_pay58 (View.readAt (Elt Ideal) arg10.view (Rect.unit (s := S16x128x128) ![1, 0, 0] S1x128x128.size inb_S16x128x128_S1x128x128_1_0_0).toLoadRect (harg10.unread Y))) (k0_pay59 (View.readAt (Elt Ideal) arg10.view (Rect.unit (s := S16x128x128) ![2, 0, 0] S1x128x128.size inb_S16x128x128_S1x128x128_2_0_0).toLoadRect (harg10.unread Y))) (k0_pay60 (View.readAt (Elt Ideal) arg10.view (Rect.unit (s := S16x128x128) ![3, 0, 0] S1x128x128.size inb_S16x128x128_S1x128x128_3_0_0).toLoadRect (harg10.unread Y))) (k0_pay61 (View.readAt (Elt Ideal) arg10.view (Rect.unit (s := S16x128x128) ![4, 0, 0] S1x128x128.size inb_S16x128x128_S1x128x128_4_0_0).toLoadRect (harg10.unread Y))) (k0_pay62 (View.readAt (Elt Ideal) arg10.view (Rect.unit (s := S16x128x128) ![5, 0, 0] S1x128x128.size inb_S16x128x128_S1x128x128_5_0_0).toLoadRect (harg10.unread Y))) (k0_pay63 (View.readAt (Elt Ideal) arg10.view (Rect.unit (s := S16x128x128) ![6, 0, 0] S1x128x128.size inb_S16x128x128_S1x128x128_6_0_0).toLoadRect (harg10.unread Y))) (View.readAt (Elt Ideal) arg10.view (Rect.unit (s := S16x128x128) ![7, 0, 0] S1x128x128.size inb_S16x128x128_S1x128x128_7_0_0).toLoadRect (harg10.unread Y)) (View.readAt (Elt Ideal) arg10.view (Rect.unit (s := S16x128x128) ![8, 0, 0] S1x128x128.size inb_S16x128x128_S1x128x128_8_0_0).toLoadRect (harg10.unread Y)) (View.readAt (Elt Ideal) arg10.view (Rect.unit (s := S16x128x128) ![9, 0, 0] S1x128x128.size inb_S16x128x128_S1x128x128_9_0_0).toLoadRect (harg10.unread Y)) (View.readAt (Elt Ideal) arg10.view (Rect.unit (s := S16x128x128) ![10, 0, 0] S1x128x128.size inb_S16x128x128_S1x128x128_10_0_0).toLoadRect (harg10.unread Y)) (View.readAt (Elt Ideal) arg10.view (Rect.unit (s := S16x128x128) ![11, 0, 0] S1x128x128.size inb_S16x128x128_S1x128x128_11_0_0).toLoadRect (harg10.unread Y)) (View.readAt (Elt Ideal) arg10.view (Rect.unit (s := S16x128x128) ![12, 0, 0] S1x128x128.size inb_S16x128x128_S1x128x128_12_0_0).toLoadRect (harg10.unread Y)) (View.readAt (Elt Ideal) arg10.view (Rect.unit (s := S16x128x128) ![13, 0, 0] S1x128x128.size inb_S16x128x128_S1x128x128_13_0_0).toLoadRect (harg10.unread Y)) (View.readAt (Elt Ideal) arg10.view (Rect.unit (s := S16x128x128) ![14, 0, 0] S1x128x128.size inb_S16x128x128_S1x128x128_14_0_0).toLoadRect (harg10.unread Y)) (View.readAt (Elt Ideal) arg10.view (Rect.unit (s := S16x128x128) ![15, 0, 0] S1x128x128.size inb_S16x128x128_S1x128x128_15_0_0).toLoadRect (harg10.unread Y)) b) (k0_pay65 (k0_pay57 (View.readAt (Elt Ideal) arg10.view (Rect.unit (s := S16x128x128) ![0, 0, 0] S1x128x128.size inb_S16x128x128_S1x128x128_0_0_0).toLoadRect (harg10.unread Y))) (k0_pay58 (View.readAt (Elt Ideal) arg10.view (Rect.unit (s := S16x128x128) ![1, 0, 0] S1x128x128.size inb_S16x128x128_S1x128x128_1_0_0).toLoadRect (harg10.unread Y))) (k0_pay59 (View.readAt (Elt Ideal) arg10.view (Rect.unit (s := S16x128x128) ![2, 0, 0] S1x128x128.size inb_S16x128x128_S1x128x128_2_0_0).toLoadRect (harg10.unread Y))) (k0_pay60 (View.readAt (Elt Ideal) arg10.view (Rect.unit (s := S16x128x128) ![3, 0, 0] S1x128x128.size inb_S16x128x128_S1x128x128_3_0_0).toLoadRect (harg10.unread Y))) (k0_pay61 (View.readAt (Elt Ideal) arg10.view (Rect.unit (s := S16x128x128) ![4, 0, 0] S1x128x128.size inb_S16x128x128_S1x128x128_4_0_0).toLoadRect (harg10.unread Y))) (k0_pay62 (View.readAt (Elt Ideal) arg10.view (Rect.unit (s := S16x128x128) ![5, 0, 0] S1x128x128.size inb_S16x128x128_S1x128x128_5_0_0).toLoadRect (harg10.unread Y))) (k0_pay63 (View.readAt (Elt Ideal) arg10.view (Rect.unit (s := S16x128x128) ![6, 0, 0] S1x128x128.size inb_S16x128x128_S1x128x128_6_0_0).toLoadRect (harg10.unread Y))) (View.readAt (Elt Ideal) arg10.view (Rect.unit (s := S16x128x128) ![7, 0, 0] S1x128x128.size inb_S16x128x128_S1x128x128_7_0_0).toLoadRect (harg10.unread Y)) (View.readAt (Elt Ideal) arg10.view (Rect.unit (s := S16x128x128) ![8, 0, 0] S1x128x128.size inb_S16x128x128_S1x128x128_8_0_0).toLoadRect (harg10.unread Y)) (View.readAt (Elt Ideal) arg10.view (Rect.unit (s := S16x128x128) ![9, 0, 0] S1x128x128.size inb_S16x128x128_S1x128x128_9_0_0).toLoadRect (harg10.unread Y)) (View.readAt (Elt Ideal) arg10.view (Rect.unit (s := S16x128x128) ![10, 0, 0] S1x128x128.size inb_S16x128x128_S1x128x128_10_0_0).toLoadRect (harg10.unread Y)) (View.readAt (Elt Ideal) arg10.view (Rect.unit (s := S16x128x128) ![11, 0, 0] S1x128x128.size inb_S16x128x128_S1x128x128_11_0_0).toLoadRect (harg10.unread Y)) (View.readAt (Elt Ideal) arg10.view (Rect.unit (s := S16x128x128) ![12, 0, 0] S1x128x128.size inb_S16x128x128_S1x128x128_12_0_0).toLoadRect (harg10.unread Y)) (View.readAt (Elt Ideal) arg10.view (Rect.unit (s := S16x128x128) ![13, 0, 0] S1x128x128.size inb_S16x128x128_S1x128x128_13_0_0).toLoadRect (harg10.unread Y)) (View.readAt (Elt Ideal) arg10.view (Rect.unit (s := S16x128x128) ![14, 0, 0] S1x128x128.size inb_S16x128x128_S1x128x128_14_0_0).toLoadRect (harg10.unread Y)) (View.readAt (Elt Ideal) arg10.view (Rect.unit (s := S16x128x128) ![15, 0, 0] S1x128x128.size inb_S16x128x128_S1x128x128_15_0_0).toLoadRect (harg10.unread Y)) b) g e (ix3 p r q) = finished (beside Y) b g e r q := by
  rw [centred_eq, squares_eq]
  exact last_eq _ g e p r q

end Cert.Proof.ConvIdeal

end
-- ==== Proof.ConvStore.lean ====
/- The depthwise causal convolution's call, over the extended reals: the block a point stores, from the blocks it reads. -/
module

public import proofs.«01_k».proof.Proof.ConvRows
public import proofs.«01_k».proof.Proof.ConvTaps
public import proofs.«01_k».proof.Proof.ConvBlock

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The convolution's rows at a point: thirty-one products at each row and channel. -/
def convolved (i : grid0.Coords) (xb : Vec Ideal S1x128x2048 .f32) (xh : Vec Ideal S1x32x2048 .f32) (w : Vec Ideal S16x32x128 .f32) : FVec Ideal S128x2048 .f32 :=
  fun p => ∑ j : Fin 31, tap w (padded i xb xh) ⟨(p 1).val / 128, by have := (p 1).isLt; change _ < 2048 at this; omega⟩ (p 0) ⟨(p 1).val % 128, by omega⟩ j

theorem sums_eq (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole) (v : FVec Ideal S32x128 .f32) (w : Vec Ideal S16x32x128 .f32)
    (xb : Vec Ideal S1x128x2048 .f32) (xh : Vec Ideal S1x32x2048 .f32) :
    beside (sums c i arg2 harg2 arg3 harg3 arg4 harg4 arg5 harg5 arg6 harg6 arg7 harg7 arg8 harg8 arg9 harg9 arg10 harg10 arg11 harg11 v w (arg9.view.read (Elt Ideal) (arg9.view.writes (Elt Ideal) arg9.view.junk (kernelRun.sl.HS0_32 c i arg2 harg2 arg3 harg3 xb xh))))
      = convolved i xb xh w := by
  rw [rows_eq]
  funext p
  unfold beside sums convolved
  exact trip_sum c i arg2 harg2 arg3 harg3 arg4 harg4 arg5 harg5 arg6 harg6 arg7 harg7 arg8 harg8 arg9 harg9 arg10 harg10 arg11 harg11 v w _ _ _ _

/-- A load of a whole row. -/
theorem row_whole (a : Memref sig .tc .vmem S1x2048 .f32) (h : a.IsWhole) (x : Vec Ideal S1x2048 .f32) (inb) :
    View.readAt (Elt Ideal) a.view (Rect.unit (s := S1x2048) ![0, 0] S1x2048.size inb).toLoadRect (h.unread x) = x := by
  funext y
  refine read_unit a h x _ _ _ _ _ fun d => ?_
  match d with
  | ⟨0, _⟩ => show (y 0).val = 0 + (y 0).val; omega
  | ⟨1, _⟩ => show (y 1).val = 0 + (y 1).val; omega

theorem run_apply (c : Dev nD) (i : grid0.Coords) (arg2 : Memref sig .tc .vmem S1x128x2048 .f32) (harg2 : arg2.IsWhole) (arg3 : Memref sig .tc .vmem S1x32x2048 .f32) (harg3 : arg3.IsWhole) (arg4 : Memref sig .tc .vmem S16x32x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x128x2048 .bf16) (harg8 : arg8.IsWhole) (arg9 : Memref sig .tc .vmem S16x160x128 .f32) (harg9 : arg9.IsWhole) (arg10 : Memref sig .tc .vmem S16x128x128 .f32) (harg10 : arg10.IsWhole) (arg11 : Memref sig .tc .vmem S160x128 .f32) (harg11 : arg11.IsWhole) (xb : Vec Ideal S1x128x2048 .f32) (xh : Vec Ideal S1x32x2048 .f32) (w : Vec Ideal S16x32x128 .f32) (b g e : Vec Ideal S1x2048 .f32) (p : Fin 1) (r : Fin 128) (q : Fin 2048) :
    View.canon (kernelRun c i arg2 harg2 arg3 harg3 arg4 harg4 arg5 harg5 arg6 harg6 arg7 harg7 arg8 harg8 arg9 harg9 arg10 harg10 arg11 harg11 xb xh w b g e).1 (ix3 p r q) = finished (convolved i xb xh w) b g e r q := by
  unfold kernelRun
  dsimp only
  rw [View.canon_cons_unit_lit _ _ _ (by decide)]
  refine (stored_eq arg10 harg10 (sums c i arg2 harg2 arg3 harg3 arg4 harg4 arg5 harg5 arg6 harg6 arg7 harg7 arg8 harg8 arg9 harg9 arg10 harg10 arg11 harg11 (kernelRun.sl.r_5 c i arg3 harg3 xh) w (arg9.view.read (Elt Ideal) (arg9.view.writes (Elt Ideal) arg9.view.junk (kernelRun.sl.HS0_32 c i arg2 harg2 arg3 harg3 xb xh)))) _ _ _ p r q).trans ?_
  rw [sums_eq, row_whole, row_whole, row_whole]

end Cert.Proof.ConvIdeal

end
-- ==== Proof.ConvIdealFrame.lean ====
/- The depthwise causal convolution's call, over the extended reals: the run of the whole call. Windows 0 and 1
   look at the same array, so each holds half of it. -/
module

public import proofs.«01_k».proof.Proof.ConvRun
public import proofs.«01_k».proof.Proof.Gen.ConvIdeal.Points
public import Idealize.ShloMosaic.Lib.Claim

@[expose] public section

set_option maxRecDepth 16384

noncomputable section

namespace Cert.Proof.ConvIdeal

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- Window 0's staging buffer at point `t`. -/
abbrev stg0 (t : Fin cfg0.N) : Memref sig .tc .vmem S1x128x2048 .f32 := win0_0.stage (cfg0.slots t 0)
theorem stg0_whole (t : Fin cfg0.N) : (stg0 t).IsWhole := hstage0_0 ((cfg0.slots t 0).cast nbuf0_0)
/-- Window 1's staging buffer at point `t`. -/
abbrev stg1 (t : Fin cfg0.N) : Memref sig .tc .vmem S1x32x2048 .f32 := win0_1.stage (cfg0.slots t 1)
theorem stg1_whole (t : Fin cfg0.N) : (stg1 t).IsWhole := hstage0_1 ((cfg0.slots t 1).cast nbuf0_1)
/-- Window 2's staging buffer at point `t`. -/
abbrev stg2 (t : Fin cfg0.N) : Memref sig .tc .vmem S16x32x128 .f32 := win0_2.stage (cfg0.slots t 2)
theorem stg2_whole (t : Fin cfg0.N) : (stg2 t).IsWhole := hstage0_2 ((cfg0.slots t 2).cast nbuf0_2)
/-- Window 3's staging buffer at point `t`. -/
abbrev stg3 (t : Fin cfg0.N) : Memref sig .tc .vmem S1x2048 .f32 := win0_3.stage (cfg0.slots t 3)
theorem stg3_whole (t : Fin cfg0.N) : (stg3 t).IsWhole := hstage0_3 ((cfg0.slots t 3).cast nbuf0_3)
/-- Window 4's staging buffer at point `t`. -/
abbrev stg4 (t : Fin cfg0.N) : Memref sig .tc .vmem S1x2048 .f32 := win0_4.stage (cfg0.slots t 4)
theorem stg4_whole (t : Fin cfg0.N) : (stg4 t).IsWhole := hstage0_4 ((cfg0.slots t 4).cast nbuf0_4)
/-- Window 5's staging buffer at point `t`. -/
abbrev stg5 (t : Fin cfg0.N) : Memref sig .tc .vmem S1x2048 .f32 := win0_5.stage (cfg0.slots t 5)
theorem stg5_whole (t : Fin cfg0.N) : (stg5 t).IsWhole := hstage0_5 ((cfg0.slots t 5).cast nbuf0_5)
/-- Window 6's staging buffer at point `t`. -/
abbrev stg6 (t : Fin cfg0.N) : Memref sig .tc .vmem S1x128x2048 .bf16 := win0_6.stage (cfg0.slots t 6)
theorem stg6_whole (t : Fin cfg0.N) : (stg6 t).IsWhole := hstage0_6 ((cfg0.slots t 6).cast nbuf0_6)

/-- The scratch: the padded rows, the gathered sums, the working copy of one strip. -/
abbrev pad : Memref sig .tc .vmem S16x160x128 .f32 := Memref.whole cc0_scratch0
abbrev gath : Memref sig .tc .vmem S16x128x128 .f32 := Memref.whole cc0_scratch1
abbrev slab : Memref sig .tc .vmem S160x128 .f32 := Memref.whole cc0_scratch2

/-- The invariant between points: the scratch at some contents and the generator's register. -/
theorem between_eq (c : Dev nD) : (Pipeline.ΦA spec0 c : sProp 𝕄)
    = iprop(iprop((∃ d, owns (c : Thread nD τ) pad fullShare d) ∗ (∃ d, owns (c : Thread nD τ) gath fullShare d)
        ∗ (∃ d, owns (c : Thread nD τ) slab fullShare d)) ∗ (∃ r, prngReg c r)) := by
  unfold Pipeline.ΦA; rw [scopedRest0_eq]; simp only [pad, gath, slab, owns_whole]; try rfl

/-- The pieces the body stores into the output block at point `t`. -/
def pieces (c : Dev nD) (t : Fin cfg0.N) : List (View.Piece (Elt F) S1x128x2048 .bf16) :=
  (kernelRun c (grid0.coords t) (stg0 t) (stg0_whole t) (stg1 t) (stg1_whole t) (stg2 t) (stg2_whole t) (stg3 t) (stg3_whole t) (stg4 t) (stg4_whole t) (stg5 t) (stg5_whole t) (stg6 t) (stg6_whole t) pad (Memref.isWhole_whole _) gath (Memref.isWhole_whole _) slab (Memref.isWhole_whole _) (iblk m c 0 t) (iblk m c 1 t) (iblk m c 2 t) (iblk m c 3 t) (iblk m c 4 t) (iblk m c 5 t)).1

/-- They are one piece, the whole block. -/
theorem pieces_cover (c : Dev nD) (t : Fin cfg0.N) (y : S1x128x2048.Idx) : ∃ p ∈ pieces m c t, y ∈ p.1.set :=
  View.cover_of_tiledL (pieces m c t) S1x128x2048.size (by unfold pieces kernelRun; sl_kernel_rfl) y

/-- The output block at point `t`. -/
def block (c : Dev nD) (t : Fin cfg0.N) : Vec F S1x128x2048 .bf16 := View.canon (pieces m c t)

/-- What every window's array and staging buffer hold along the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => block m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d

theorem after6 (c : Dev nD) (t : Fin cfg0.N) : (dats m 0 c).after 6 t = block m c t := by dsimp only [dats]

/-- What the body is called with at point `t`. -/
def before (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What it gives back. -/
def after (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 1000000 in
/-- The body at any point of the grid. -/
theorem body_at (c : Dev nD) (t : Fin cfg0.N) :
    before m c t ⊢ wp frame (wpE (defs₀ (F := F)) Variants.none c none) Set.univ (bodyAt0 t) (fun _ => after m c t) := by
  unfold before after bodyAt0
  simp only [before0, before1, before2, before3, before4, before5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, between_eq,
    after0, after1, after2, after3, after4, after5, after6]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) (stg0 t) (stg0_whole t) (stg1 t) (stg1_whole t) (stg2 t) (stg2_whole t) (stg3 t) (stg3_whole t) (stg4 t) (stg4_whole t) (stg5 t) (stg5_whole t) (stg6 t) (stg6_whole t) pad (Memref.isWhole_whole _) gath (Memref.isWhole_whole _) slab (Memref.isWhole_whole _) (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%e6, H6⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact View.read_writes_eq_canon _ _ _ (pieces_cover m c t)

/-- The body's row of the table at point `t` is the body at that point. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- Every run ends, with every array at what the blocks add up to and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: every run ends, the argument arrays are as they were, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.ConvIdeal

end
-- ==== Proof.ConvHost.lean ====
/- The depthwise causal convolution's call, over the extended reals: what its windows' blocks read of the arguments. The
   taps reach the call through a scatter into zeros, a reshape and a transpose. -/
module

public import proofs.«01_k».proof.Proof.ConvIdealFrame
public import Idealize.ShloMosaic.Lib.Pipeline.ValueKit
public import Idealize.ShloMosaic.Lib.Pointwise
public import Idealize.ShloMosaic.Lib.Claim
public import Idealize.ShloMosaic.Lib.Routing.OpsSet

@[expose] public section

set_option maxRecDepth 16384

noncomputable section

namespace Cert.Proof.ConvIdeal

open Cert.ConvIdeal Cert.ConvIdeal.Gen Idealize.ShloMosaic Idealize.ShloMosaic.TcCoe Idealize.SL.Sem

variable (m : (ℓ : Loc nD τ sig) → Buf (Elt Ideal) ℓ)

/-- Update `k` lands at row `k 0` and column `k 1`: the start is row zero. -/
theorem lands (idx : IVec S1 32) (h : ∀ j, idx j = 0#32) (k : S31x2048.Idx) (r : Fin 32) (c : Fin 2048) :
    scatter_S32x2048_S1_S31x2048_01_n_0_0.resultIdx? k idx = some (ix2 r c) ↔ (k 0).val = r.val ∧ (k 1).val = c.val := by
  have hs : ∀ a, scatter_S32x2048_S1_S31x2048_01_n_0_0.start k idx a = 0 := fun a => by
    unfold ScatterDims.start
    split
    · rw [h]; rfl
    · rfl
  have h0 : scatter_S32x2048_S1_S31x2048_01_n_0_0.window k 0 = (k 0).val := by
    unfold ScatterDims.window
    rfl
  have h1 : scatter_S32x2048_S1_S31x2048_01_n_0_0.window k 1 = (k 1).val := by
    unfold ScatterDims.window
    rfl
  rw [Routing.resultIdx?_eq_some]
  constructor
  · intro q
    have q0 := q 0
    have q1 := q 1
    rw [hs, h0] at q0
    rw [hs, h1] at q1
    change (0 : Int) + ((k 0).val : Int) = (r.val : Int) at q0
    change (0 : Int) + ((k 1).val : Int) = (c.val : Int) at q1
    omega
  · rintro ⟨q0, q1⟩ a
    match a with
    | ⟨0, _⟩ =>
      refine (congrArg₂ (fun (x : Int) (y : ℕ) => x + (y : Int)) (hs 0) h0).trans ?_
      show (0 : Int) + ((k 0).val : Int) = (r.val : Int)
      omega
    | ⟨1, _⟩ =>
      refine (congrArg₂ (fun (x : Int) (y : ℕ) => x + (y : Int)) (hs 1) h1).trans ?_
      show (0 : Int) + ((k 1).val : Int) = (c.val : Int)
      omega

/-- The scatter of the taps read at one of their rows. -/
theorem scattered (x : Vec Ideal S32x2048 .f32) (idx : IVec S1 32) (h : ∀ j, idx j = 0#32) (u : Vec Ideal S31x2048 .f32)
    (a : Fin 31) (q : Fin 2048) (r : Fin 32) (hr : r.val = a.val) :
    Host.scatter scatter_S32x2048_S1_S31x2048_01_n_0_0 (fun _ b => b) x idx u (ix2 r q) = u (ix2 a q) := by
  refine Routing.scatter_set_hit _ x idx u (ix2 r q) _ (fun k hk => ?_) (ix2 a q) ((lands idx h _ r q).2 ⟨hr.symm, rfl⟩)
  obtain ⟨h0, h1⟩ := (lands idx h k r q).1 hk
  refine congrArg u (funext fun d => Fin.ext ?_)
  match d with
  | ⟨0, _⟩ => exact h0.trans hr
  | ⟨1, _⟩ => exact h1

theorem idx : ∀ t : Fin cfg0.N, win0_0.index t = ![t.val / 32, t.val % 32, 0]
    ∧ win0_1.index t = ![t.val / 32, 4 * (t.val % 32) - 1, 0] ∧ win0_2.index t = ![0, 0, 0] ∧ win0_3.index t = ![0, 0]
    ∧ win0_4.index t = ![0, 0] ∧ win0_5.index t = ![0, 0] ∧ win0_6.index t = ![t.val / 32, t.val % 32, 0] := by
  exact (by decide +kernel : ∀ t : Fin grid0.N, win0_0.index t = ![t.val / 32, t.val % 32, 0]
    ∧ win0_1.index t = ![t.val / 32, 4 * (t.val % 32) - 1, 0] ∧ win0_2.index t = ![0, 0, 0] ∧ win0_3.index t = ![0, 0]
    ∧ win0_4.index t = ![0, 0] ∧ win0_5.index t = ![0, 0] ∧ win0_6.index t = ![t.val / 32, t.val % 32, 0])

/-- The blocks of windows 2 to 5 are their whole arrays. -/
theorem whole2 (c : Dev nD) (t : Fin cfg0.N) : (iblk m c 2 t : Vec Ideal S16x32x128 .f32) = (V m c main_v4 : Vec Ideal S16x32x128 .f32) := by
  funext y
  refine congrArg (V m c main_v4 : Vec Ideal S16x32x128 .f32) (funext fun a => Fin.ext ?_)
  refine (Pipeline.Window.rect_emb_val (cfg0.win 2) t y a).trans ?_
  have e : (cfg0.win 2).index t a = 0 := by
    refine (congrFun (idx t).2.2.1 a).trans ?_
    match a with
    | ⟨0, _⟩ => rfl
    | ⟨1, _⟩ => rfl
    | ⟨2, _⟩ => rfl
  rw [e, Nat.zero_mul, Nat.zero_add]

theorem whole3 (c : Dev nD) (t : Fin cfg0.N) : (iblk m c 3 t : Vec Ideal S1x2048 .f32) = (V m c main_v5 : Vec Ideal S1x2048 .f32) := by
  funext y
  refine congrArg (V m c main_v5 : Vec Ideal S1x2048 .f32) (funext fun a => Fin.ext ?_)
  refine (Pipeline.Window.rect_emb_val (cfg0.win 3) t y a).trans ?_
  have e : (cfg0.win 3).index t a = 0 := by
    refine (congrFun (idx t).2.2.2.1 a).trans ?_
    match a with
    | ⟨0, _⟩ => rfl
    | ⟨1, _⟩ => rfl
  rw [e, Nat.zero_mul, Nat.zero_add]

theorem whole4 (c : Dev nD) (t : Fin cfg0.N) : (iblk m c 4 t : Vec Ideal S1x2048 .f32) = (V m c main_v6 : Vec Ideal S1x2048 .f32) := by
  funext y
  refine congrArg (V m c main_v6 : Vec Ideal S1x2048 .f32) (funext fun a => Fin.ext ?_)
  refine (Pipeline.Window.rect_emb_val (cfg0.win 4) t y a).trans ?_
  have e : (cfg0.win 4).index t a = 0 := by
    refine (congrFun (idx t).2.2.2.2.1 a).trans ?_
    match a with
    | ⟨0, _⟩ => rfl
    | ⟨1, _⟩ => rfl
  rw [e, Nat.zero_mul, Nat.zero_add]

theorem whole5 (c : Dev nD) (t : Fin cfg0.N) : (iblk m c 5 t : Vec Ideal S1x2048 .f32) = (V m c main_v7 : Vec Ideal S1x2048 .f32) := by
  funext y
  refine congrArg (V m c main_v7 : Vec Ideal S1x2048 .f32) (funext fun a => Fin.ext ?_)
  refine (Pipeline.Window.rect_emb_val (cfg0.win 5) t y a).trans ?_
  have e : (cfg0.win 5).index t a = 0 := by
    refine (congrFun (idx t).2.2.2.2.2.1 a).trans ?_
    match a with
    | ⟨0, _⟩ => rfl
    | ⟨1, _⟩ => rfl
  rw [e, Nat.zero_mul, Nat.zero_add]

theorem taps_value (x : Vec Ideal S32x2048 .f32) (i : IVec S1 32) (h : ∀ j, i j = 0#32) (u : Vec Ideal S31x2048 .f32)
    (k : Fin 16) (j : Fin 32) (a : Fin 31) (ha : j.val = a.val) (l : Fin 128) (q : Fin 2048) (hq : q.val = 128 * k.val + l.val) :
    (transpose S16x32x128 [1, 0, 2] (fun i' => shapeCast S32x16x128 (Host.scatter scatter_S32x2048_S1_S31x2048_01_n_0_0 (fun _ b => b) x i u)
      shapeCasts_S32x2048_S32x16x128 i') transposes_S32x16x128_S16x32x128_1_0_2 : Vec Ideal S16x32x128 .f32) (ix3 k j l) = u (ix2 a q) := by
  rw [← scattered x i h u a q j ha]
  generalize Host.scatter scatter_S32x2048_S1_S31x2048_01_n_0_0 (fun _ b => b) x i u = s
  pointwise []
  exact congrArg (fun z => s (ix2 j z)) (Fin.ext (by show k.val * 128 + l.val = q.val; omega))

theorem lane_value (u : Vec Ideal S2048 .f32) (q : Fin 2048) : (shapeCast S1x2048 u shapeCasts_S2048_S1x2048 : Vec Ideal S1x2048 .f32) (ix2 0 q) = u (ix1 q) := by
  pointwise []

/-- The taps' block: strip, tap and lane. -/
theorem taps_block (c : Dev nD) (t : Fin cfg0.N) (k : Fin 16) (j : Fin 32) (a : Fin 31) (ha : j.val = a.val) (l : Fin 128) (q : Fin 2048) (hq : q.val = 128 * k.val + l.val) :
    (iblk m c 2 t : Vec Ideal S16x32x128 .f32) (ix3 k j l) = (m (c.tc.loc main_arg1) : Vec Ideal S31x2048 .f32) (ix2 a q) := by
  rw [whole2]
  entry_read
  exact taps_value _ _ (fun _ => rfl) _ k j a ha l q hq

theorem bias_block (c : Dev nD) (t : Fin cfg0.N) (q : Fin 2048) :
    (iblk m c 3 t : Vec Ideal S1x2048 .f32) (ix2 0 q) = (m (c.tc.loc main_arg2) : Vec Ideal S2048 .f32) (ix1 q) := by
  rw [whole3]
  entry_read
  exact lane_value _ q

theorem gain_block (c : Dev nD) (t : Fin cfg0.N) (q : Fin 2048) :
    (iblk m c 4 t : Vec Ideal S1x2048 .f32) (ix2 0 q) = (m (c.tc.loc main_arg3) : Vec Ideal S2048 .f32) (ix1 q) := by
  rw [whole4]
  entry_read
  exact lane_value _ q

theorem shift_block (c : Dev nD) (t : Fin cfg0.N) (q : Fin 2048) :
    (iblk m c 5 t : Vec Ideal S1x2048 .f32) (ix2 0 q) = (m (c.tc.loc main_arg4) : Vec Ideal S2048 .f32) (ix1 q) := by
  rw [whole5]
  entry_read
  exact lane_value _ q

/-- The block of rows a point convolves. -/
theorem rows_block (c : Dev nD) (t : Fin cfg0.N) (p : Fin 1) (r : Fin 128) (q : Fin 2048) (s : Fin 2) (z : Fin 4096)
    (hs : s.val = t.val / 32) (hz : z.val = t.val % 32 * 128 + r.val) :
    (iblk m c 0 t : Vec Ideal S1x128x2048 .f32) (ix3 p r q) = (m (c.tc.loc main_arg0) : Vec Ideal S2x4096x2048 .f32) (ix3 s z q) := by
  blk_ext [iblk, V, idx t]

/-- The thirty-two rows before it (in a sequence's first block, its own first rows). -/
theorem before_block (c : Dev nD) (t : Fin cfg0.N) (p : Fin 1) (r : Fin 32) (q : Fin 2048) (s : Fin 2) (z : Fin 4096)
    (hs : s.val = t.val / 32) (hz : z.val = (4 * (t.val % 32) - 1) * 32 + r.val) :
    (iblk m c 1 t : Vec Ideal S1x32x2048 .f32) (ix3 p r q) = (m (c.tc.loc main_arg0) : Vec Ideal S2x4096x2048 .f32) (ix3 s z q) := by
  blk_ext [iblk, V, idx t]

end Cert.Proof.ConvIdeal

end
-- ==== Proof.ConvFinal.lean ====
/- The depthwise causal convolution's call, over the extended reals: the array its run leaves, as one function of the
   arguments. -/
module

public import proofs.«01_k».proof.Proof.ConvStore
public import proofs.«01_k».proof.Proof.ConvHost

@[expose] public section

set_option maxRecDepth 16384

noncomputable section

namespace Cert.Proof.ConvIdeal

open Cert.ConvIdeal Cert.ConvIdeal.Gen Idealize.ShloMosaic Idealize.ShloMosaic.TcCoe Idealize.SL.Sem

variable (m : (ℓ : Loc nD τ sig) → Buf (Elt Ideal) ℓ)

/-- The row tap `j` multiplies: thirty rows back plus `j`, and zero before the sequence's first row. -/
def shifted (x : Vec Ideal S2x4096x2048 .f32) (s : Fin 2) (z : Fin 4096) (q : Fin 2048) (j : Fin 31) : EReal :=
  if h : 30 ≤ z.val + j.val then x (ix3 s ⟨z.val + j.val - 30, by omega⟩ q) else 0

/-- A row less its mean. -/
def rowCentred (S : Fin 2048 → EReal) (q : Fin 2048) : EReal :=
  S q - Ideal.div (∑ x : Fin 2048, S x) (Ideal.ofBits FTy.f32 1157627904#32)

/-- A row normalised, with the affine map after it. -/
def rowNormed (S g e : Fin 2048 → EReal) (q : Fin 2048) : EReal :=
  rowCentred S q
      * Ideal.rsqrt (Ideal.div (∑ x : Fin 2048, rowCentred S x * rowCentred S x) (Ideal.ofBits FTy.f32 1157627904#32) + Ideal.ofBits FTy.f32 925353388#32)
      * g q + e q

/-- The call's result: each row convolved, normalised and put through `x · logistic x`. -/
def G (x : Vec Ideal S2x4096x2048 .f32) (w : Vec Ideal S31x2048 .f32) (b g e : Vec Ideal S2048 .f32) : FVec Ideal S2x4096x2048 .bf16 := fun i =>
  rowNormed (fun q => (∑ j : Fin 31, shifted x (i 0) (i 1) q j * w (ix2 j q)) + b (ix1 q)) (fun q => g (ix1 q)) (fun q => e (ix1 q)) (i 2)
    * Ideal.logistic (rowNormed (fun q => (∑ j : Fin 31, shifted x (i 0) (i 1) q j * w (ix2 j q)) + b (ix1 q)) (fun q => g (ix1 q)) (fun q => e (ix1 q)) (i 2))

theorem coord : ∀ t : Fin cfg0.N, ((grid0.coords t) 1).val = t.val % 32 := by
  exact (by decide +kernel : ∀ t : Fin grid0.N, ((grid0.coords t) 1).val = t.val % 32)

/-- The comparison with block number zero. -/
theorem first_block (n : ℕ) (hn : n < 32) (x : EReal) :
    Scalar.select (Scalar.cmpi .eq (BitVec.ofNat 32 n) 0#32) (0 : EReal) x = if n = 0 then 0 else x := by
  interval_cases n <;> rfl

/-- The padded rows of a point, read at a tap. -/
theorem padded_value (c : Dev nD) (t : Fin cfg0.N) (k : Fin 16) (r l : Fin 128) (j : Fin 31) (q : Fin 2048) (s : Fin 2) (z : Fin 4096)
    (hq : q.val = 128 * k.val + l.val) (hs : s.val = t.val / 32) (hz : z.val = t.val % 32 * 128 + r.val) :
    padded (grid0.coords t) (iblk m c 0 t) (iblk m c 1 t) (ix3 k ⟨r.val + (j.val + 2), by omega⟩ l) = shifted (m (c.tc.loc main_arg0)) s z q j := by
  have hq' : (⟨128 * k.val + l.val, by omega⟩ : Fin 2048) = q := Fin.ext hq.symm
  by_cases h : r.val + (j.val + 2) < 32
  · rw [padded_halo (grid0.coords t) _ _ (ix3 k ⟨r.val + (j.val + 2), by omega⟩ l) k.val ⟨r.val + (j.val + 2), h⟩ l q rfl rfl rfl hq, coord t, first_block _ (by omega)]
    unfold shifted
    by_cases h0 : t.val % 32 = 0
    · rw [if_pos h0, dif_neg (by omega)]
    · rw [if_neg h0, dif_pos (by omega)]
      exact before_block m c t 0 _ q s _ hs (by show z.val + j.val - 30 = (4 * (t.val % 32) - 1) * 32 + (r.val + (j.val + 2)); omega)
  · rw [padded_block (grid0.coords t) _ _ (ix3 k ⟨r.val + (j.val + 2), by omega⟩ l) k.val ⟨r.val + (j.val + 2) - 32, by omega⟩ l q rfl
      (by show r.val + (j.val + 2) = 32 + (r.val + (j.val + 2) - 32); omega) rfl hq]
    unfold shifted
    rw [dif_pos (by omega)]
    exact rows_block m c t 0 _ q s _ hs (by show z.val + j.val - 30 = t.val % 32 * 128 + (r.val + (j.val + 2) - 32); omega)

/-- A point's convolution, at a row and a channel. -/
theorem convolved_value (c : Dev nD) (t : Fin cfg0.N) (r : Fin 128) (q : Fin 2048) (s : Fin 2) (z : Fin 4096)
    (hs : s.val = t.val / 32) (hz : z.val = t.val % 32 * 128 + r.val) :
    convolved (grid0.coords t) (iblk m c 0 t) (iblk m c 1 t) (iblk m c 2 t) (ix2 r q)
      = ∑ j : Fin 31, shifted (m (c.tc.loc main_arg0)) s z q j * (m (c.tc.loc main_arg1) : Vec Ideal S31x2048 .f32) (ix2 j q) := by
  unfold convolved
  refine Finset.sum_congr rfl fun j _ => ?_
  unfold tap
  exact congrArg₂ (fun a b : EReal => a * b)
    (padded_value m c t _ r _ j q s z (by show q.val = 128 * (q.val / 128) + q.val % 128; omega) hs hz)
    (taps_block m c t _ _ j rfl _ q (by show q.val = 128 * (q.val / 128) + q.val % 128; omega))

/-- A point's block, at an element. -/
theorem block_value (c : Dev nD) (t : Fin cfg0.N) (p : Fin 1) (r : Fin 128) (q : Fin 2048) (s : Fin 2) (z : Fin 4096)
    (hs : s.val = t.val / 32) (hz : z.val = t.val % 32 * 128 + r.val) :
    (block m c t : Vec Ideal S1x128x2048 .bf16) (ix3 p r q)
      = G (m (c.tc.loc main_arg0)) (m (c.tc.loc main_arg1)) (m (c.tc.loc main_arg2)) (m (c.tc.loc main_arg3)) (m (c.tc.loc main_arg4)) (ix3 s z q) := by
  unfold block pieces
  rw [run_apply]
  unfold finished normed centred G rowNormed rowCentred
  simp only [convolved_value m c t r _ s z hs hz, bias_block, gain_block, shift_block]
  rfl

theorem final (c : Dev nD) : (dats m 0 c).arrAt 6 (cfgs 0).N =
    G (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after6]
  idx_vars y
  have ht : t.val < 64 := t.isLt
  refine (block_value m c t y0 y1 y2 ⟨t.val / 32, by omega⟩ ⟨t.val % 32 * 128 + y1.val, by omega⟩ rfl rfl).trans
    (congrArg (G (m (c.tc.loc main_arg0)) (m (c.tc.loc main_arg1)) (m (c.tc.loc main_arg2)) (m (c.tc.loc main_arg3)) (m (c.tc.loc main_arg4)))
      (funext fun a => Fin.ext ?_))
  refine Eq.trans ?_ (Pipeline.Window.rect_emb_val (cfg0.win 6) t (ix3 y0 y1 y2) a).symm
  have e : (cfg0.win 6).index t a = ![t.val / 32, t.val % 32, 0] a := congrFun (idx t).2.2.2.2.2.2 a
  rw [e]
  match a with
  | ⟨0, _⟩ => show t.val / 32 = t.val / 32 * 1 + y0.val; omega
  | ⟨1, _⟩ => rfl
  | ⟨2, _⟩ => show y2.val = 0 * 2048 + y2.val; omega

end Cert.Proof.ConvIdeal

end
-- ==== Proof.ConvRefTaps.lean ====
/- The depthwise causal convolution written plainly, over the extended reals: its thirty-one shifted products. -/
module

public import proofs.«01_k».proof.Proof.ConvFinal
public import proofs.«01_k».proof.Proof.Gen.ConvRefIdeal.Read

@[expose] public section

set_option maxRecDepth 16384

noncomputable section

namespace Cert.Proof.Conv

open Cert.ConvIdeal Cert.Proof.ConvIdeal Idealize.ShloMosaic Idealize.ShloMosaic.TcCoe
open Cert.ConvRefIdeal.Read

/-- The array with thirty rows of zeros in front of each sequence. -/
theorem padded_ref (x0 : FVec Ideal S2x4096x2048 .f32) (s : Fin 2) (z : Fin 4096) (q : Fin 2048) (j : Fin 31) (p : Fin 4126) (hp : p.val = z.val + j.val) :
   val_main_v0 (F := Ideal) x0 (ix3 s p q) = shifted x0 s z q j := by
  pointwise [val_main_v0, val_main_call0_v0, val_main_c, shifted]
  by_cases h : 30 ≤ z.val + j.val
  · rw [dif_pos h, dif_pos (by omega)]
    exact congrArg (fun y => x0 (ix3 s y q)) (Fin.ext (by show p.val - 30 = z.val + j.val - 30; omega))
  · rw [dif_neg h, dif_neg (by omega)]
    show ((((0#32 : BitVec 32).toInt : ℝ)) : EReal) = 0
    simp

theorem product0 (x0 : FVec Ideal S2x4096x2048 .f32) (x1 : FVec Ideal S31x2048 .f32) (s : Fin 2) (z : Fin 4096) (q : Fin 2048) :
    val_main_v6 (F := Ideal) x0 x1 (ix3 s z q) = shifted x0 s z q 0 * x1 (ix2 0 q) := by
  pointwise [val_main_v1, val_main_v2, val_main_v3, val_main_v4, val_main_v5, val_main_v6]
  exact congrArg (fun y : EReal => y * x1 (ix2 0 q)) (padded_ref x0 s z q 0 _ (by show z.val = z.val + 0; omega))

theorem product1 (x0 : FVec Ideal S2x4096x2048 .f32) (x1 : FVec Ideal S31x2048 .f32) (s : Fin 2) (z : Fin 4096) (q : Fin 2048) :
    val_main_v14 (F := Ideal) x0 x1 (ix3 s z q) = shifted x0 s z q 1 * x1 (ix2 1 q) := by
  pointwise [val_main_v9, val_main_v10, val_main_v11, val_main_v12, val_main_v13, val_main_v14]
  exact congrArg (fun y : EReal => y * x1 (ix2 1 q)) (padded_ref x0 s z q 1 _ (by show 1 + z.val = z.val + 1; omega))

theorem product2 (x0 : FVec Ideal S2x4096x2048 .f32) (x1 : FVec Ideal S31x2048 .f32) (s : Fin 2) (z : Fin 4096) (q : Fin 2048) :
    val_main_v21 (F := Ideal) x0 x1 (ix3 s z q) = shifted x0 s z q 2 * x1 (ix2 2 q) := by
  pointwise [val_main_v16, val_main_v17, val_main_v18, val_main_v19, val_main_v20, val_main_v21]
  exact congrArg (fun y : EReal => y * x1 (ix2 2 q)) (padded_ref x0 s z q 2 _ (by show 2 + z.val = z.val + 2; omega))

theorem product3 (x0 : FVec Ideal S2x4096x2048 .f32) (x1 : FVec Ideal S31x2048 .f32) (s : Fin 2) (z : Fin 4096) (q : Fin 2048) :
    val_main_v28 (F := Ideal) x0 x1 (ix3 s z q) = shifted x0 s z q 3 * x1 (ix2 3 q) := by
  pointwise [val_main_v23, val_main_v24, val_main_v25, val_main_v26, val_main_v27, val_main_v28]
  exact congrArg (fun y : EReal => y * x1 (ix2 3 q)) (padded_ref x0 s z q 3 _ (by show 3 + z.val = z.val + 3; omega))

theorem product4 (x0 : FVec Ideal S2x4096x2048 .f32) (x1 : FVec Ideal S31x2048 .f32) (s : Fin 2) (z : Fin 4096) (q : Fin 2048) :
    val_main_v35 (F := Ideal) x0 x1 (ix3 s z q) = shifted x0 s z q 4 * x1 (ix2 4 q) := by
  pointwise [val_main_v30, val_main_v31, val_main_v32, val_main_v33, val_main_v34, val_main_v35]
  exact congrArg (fun y : EReal => y * x1 (ix2 4 q)) (padded_ref x0 s z q 4 _ (by show 4 + z.val = z.val + 4; omega))

theorem product5 (x0 : FVec Ideal S2x4096x2048 .f32) (x1 : FVec Ideal S31x2048 .f32) (s : Fin 2) (z : Fin 4096) (q : Fin 2048) :
    val_main_v42 (F := Ideal) x0 x1 (ix3 s z q) = shifted x0 s z q 5 * x1 (ix2 5 q) := by
  pointwise [val_main_v37, val_main_v38, val_main_v39, val_main_v40, val_main_v41, val_main_v42]
  exact congrArg (fun y : EReal => y * x1 (ix2 5 q)) (padded_ref x0 s z q 5 _ (by show 5 + z.val = z.val + 5; omega))

theorem product6 (x0 : FVec Ideal S2x4096x2048 .f32) (x1 : FVec Ideal S31x2048 .f32) (s : Fin 2) (z : Fin 4096) (q : Fin 2048) :
    val_main_v49 (F := Ideal) x0 x1 (ix3 s z q) = shifted x0 s z q 6 * x1 (ix2 6 q) := by
  pointwise [val_main_v44, val_main_v45, val_main_v46, val_main_v47, val_main_v48, val_main_v49]
  exact congrArg (fun y : EReal => y * x1 (ix2 6 q)) (padded_ref x0 s z q 6 _ (by show 6 + z.val = z.val + 6; omega))

theorem product7 (x0 : FVec Ideal S2x4096x2048 .f32) (x1 : FVec Ideal S31x2048 .f32) (s : Fin 2) (z : Fin 4096) (q : Fin 2048) :
    val_main_v56 (F := Ideal) x0 x1 (ix3 s z q) = shifted x0 s z q 7 * x1 (ix2 7 q) := by
  pointwise [val_main_v51, val_main_v52, val_main_v53, val_main_v54, val_main_v55, val_main_v56]
  exact congrArg (fun y : EReal => y * x1 (ix2 7 q)) (padded_ref x0 s z q 7 _ (by show 7 + z.val = z.val + 7; omega))

theorem product8 (x0 : FVec Ideal S2x4096x2048 .f32) (x1 : FVec Ideal S31x2048 .f32) (s : Fin 2) (z : Fin 4096) (q : Fin 2048) :
    val_main_v63 (F := Ideal) x0 x1 (ix3 s z q) = shifted x0 s z q 8 * x1 (ix2 8 q) := by
  pointwise [val_main_v58, val_main_v59, val_main_v60, val_main_v61, val_main_v62, val_main_v63]
  exact congrArg (fun y : EReal => y * x1 (ix2 8 q)) (padded_ref x0 s z q 8 _ (by show 8 + z.val = z.val + 8; omega))

theorem product9 (x0 : FVec Ideal S2x4096x2048 .f32) (x1 : FVec Ideal S31x2048 .f32) (s : Fin 2) (z : Fin 4096) (q : Fin 2048) :
    val_main_v70 (F := Ideal) x0 x1 (ix3 s z q) = shifted x0 s z q 9 * x1 (ix2 9 q) := by
  pointwise [val_main_v65, val_main_v66, val_main_v67, val_main_v68, val_main_v69, val_main_v70]
  exact congrArg (fun y : EReal => y * x1 (ix2 9 q)) (padded_ref x0 s z q 9 _ (by show 9 + z.val = z.val + 9; omega))

theorem product10 (x0 : FVec Ideal S2x4096x2048 .f32) (x1 : FVec Ideal S31x2048 .f32) (s : Fin 2) (z : Fin 4096) (q : Fin 2048) :
    val_main_v77 (F := Ideal) x0 x1 (ix3 s z q) = shifted x0 s z q 10 * x1 (ix2 10 q) := by
  pointwise [val_main_v72, val_main_v73, val_main_v74, val_main_v75, val_main_v76, val_main_v77]
  exact congrArg (fun y : EReal => y * x1 (ix2 10 q)) (padded_ref x0 s z q 10 _ (by show 10 + z.val = z.val + 10; omega))

theorem product11 (x0 : FVec Ideal S2x4096x2048 .f32) (x1 : FVec Ideal S31x2048 .f32) (s : Fin 2) (z : Fin 4096) (q : Fin 2048) :
    val_main_v84 (F := Ideal) x0 x1 (ix3 s z q) = shifted x0 s z q 11 * x1 (ix2 11 q) := by
  pointwise [val_main_v79, val_main_v80, val_main_v81, val_main_v82, val_main_v83, val_main_v84]
  exact congrArg (fun y : EReal => y * x1 (ix2 11 q)) (padded_ref x0 s z q 11 _ (by show 11 + z.val = z.val + 11; omega))

theorem product12 (x0 : FVec Ideal S2x4096x2048 .f32) (x1 : FVec Ideal S31x2048 .f32) (s : Fin 2) (z : Fin 4096) (q : Fin 2048) :
    val_main_v91 (F := Ideal) x0 x1 (ix3 s z q) = shifted x0 s z q 12 * x1 (ix2 12 q) := by
  pointwise [val_main_v86, val_main_v87, val_main_v88, val_main_v89, val_main_v90, val_main_v91]
  exact congrArg (fun y : EReal => y * x1 (ix2 12 q)) (padded_ref x0 s z q 12 _ (by show 12 + z.val = z.val + 12; omega))

theorem product13 (x0 : FVec Ideal S2x4096x2048 .f32) (x1 : FVec Ideal S31x2048 .f32) (s : Fin 2) (z : Fin 4096) (q : Fin 2048) :
    val_main_v98 (F := Ideal) x0 x1 (ix3 s z q) = shifted x0 s z q 13 * x1 (ix2 13 q) := by
  pointwise [val_main_v93, val_main_v94, val_main_v95, val_main_v96, val_main_v97, val_main_v98]
  exact congrArg (fun y : EReal => y * x1 (ix2 13 q)) (padded_ref x0 s z q 13 _ (by show 13 + z.val = z.val + 13; omega))

theorem product14 (x0 : FVec Ideal S2x4096x2048 .f32) (x1 : FVec Ideal S31x2048 .f32) (s : Fin 2) (z : Fin 4096) (q : Fin 2048) :
    val_main_v105 (F := Ideal) x0 x1 (ix3 s z q) = shifted x0 s z q 14 * x1 (ix2 14 q) := by
  pointwise [val_main_v100, val_main_v101, val_main_v102, val_main_v103, val_main_v104, val_main_v105]
  exact congrArg (fun y : EReal => y * x1 (ix2 14 q)) (padded_ref x0 s z q 14 _ (by show 14 + z.val = z.val + 14; omega))

theorem product15 (x0 : FVec Ideal S2x4096x2048 .f32) (x1 : FVec Ideal S31x2048 .f32) (s : Fin 2) (z : Fin 4096) (q : Fin 2048) :
    val_main_v112 (F := Ideal) x0 x1 (ix3 s z q) = shifted x0 s z q 15 * x1 (ix2 15 q) := by
  pointwise [val_main_v107, val_main_v108, val_main_v109, val_main_v110, val_main_v111, val_main_v112]
  exact congrArg (fun y : EReal => y * x1 (ix2 15 q)) (padded_ref x0 s z q 15 _ (by show 15 + z.val = z.val + 15; omega))

theorem product16 (x0 : FVec Ideal S2x4096x2048 .f32) (x1 : FVec Ideal S31x2048 .f32) (s : Fin 2) (z : Fin 4096) (q : Fin 2048) :
    val_main_v119 (F := Ideal) x0 x1 (ix3 s z q) = shifted x0 s z q 16 * x1 (ix2 16 q) := by
  pointwise [val_main_v114, val_main_v115, val_main_v116, val_main_v117, val_main_v118, val_main_v119]
  exact congrArg (fun y : EReal => y * x1 (ix2 16 q)) (padded_ref x0 s z q 16 _ (by show 16 + z.val = z.val + 16; omega))

theorem product17 (x0 : FVec Ideal S2x4096x2048 .f32) (x1 : FVec Ideal S31x2048 .f32) (s : Fin 2) (z : Fin 4096) (q : Fin 2048) :
    val_main_v126 (F := Ideal) x0 x1 (ix3 s z q) = shifted x0 s z q 17 * x1 (ix2 17 q) := by
  pointwise [val_main_v121, val_main_v122, val_main_v123, val_main_v124, val_main_v125, val_main_v126]
  exact congrArg (fun y : EReal => y * x1 (ix2 17 q)) (padded_ref x0 s z q 17 _ (by show 17 + z.val = z.val + 17; omega))

theorem product18 (x0 : FVec Ideal S2x4096x2048 .f32) (x1 : FVec Ideal S31x2048 .f32) (s : Fin 2) (z : Fin 4096) (q : Fin 2048) :
    val_main_v133 (F := Ideal) x0 x1 (ix3 s z q) = shifted x0 s z q 18 * x1 (ix2 18 q) := by
  pointwise [val_main_v128, val_main_v129, val_main_v130, val_main_v131, val_main_v132, val_main_v133]
  exact congrArg (fun y : EReal => y * x1 (ix2 18 q)) (padded_ref x0 s z q 18 _ (by show 18 + z.val = z.val + 18; omega))

theorem product19 (x0 : FVec Ideal S2x4096x2048 .f32) (x1 : FVec Ideal S31x2048 .f32) (s : Fin 2) (z : Fin 4096) (q : Fin 2048) :
    val_main_v140 (F := Ideal) x0 x1 (ix3 s z q) = shifted x0 s z q 19 * x1 (ix2 19 q) := by
  pointwise [val_main_v135, val_main_v136, val_main_v137, val_main_v138, val_main_v139, val_main_v140]
  exact congrArg (fun y : EReal => y * x1 (ix2 19 q)) (padded_ref x0 s z q 19 _ (by show 19 + z.val = z.val + 19; omega))

theorem product20 (x0 : FVec Ideal S2x4096x2048 .f32) (x1 : FVec Ideal S31x2048 .f32) (s : Fin 2) (z : Fin 4096) (q : Fin 2048) :
    val_main_v147 (F := Ideal) x0 x1 (ix3 s z q) = shifted x0 s z q 20 * x1 (ix2 20 q) := by
  pointwise [val_main_v142, val_main_v143, val_main_v144, val_main_v145, val_main_v146, val_main_v147]
  exact congrArg (fun y : EReal => y * x1 (ix2 20 q)) (padded_ref x0 s z q 20 _ (by show 20 + z.val = z.val + 20; omega))

theorem product21 (x0 : FVec Ideal S2x4096x2048 .f32) (x1 : FVec Ideal S31x2048 .f32) (s : Fin 2) (z : Fin 4096) (q : Fin 2048) :
    val_main_v154 (F := Ideal) x0 x1 (ix3 s z q) = shifted x0 s z q 21 * x1 (ix2 21 q) := by
  pointwise [val_main_v149, val_main_v150, val_main_v151, val_main_v152, val_main_v153, val_main_v154]
  exact congrArg (fun y : EReal => y * x1 (ix2 21 q)) (padded_ref x0 s z q 21 _ (by show 21 + z.val = z.val + 21; omega))

theorem product22 (x0 : FVec Ideal S2x4096x2048 .f32) (x1 : FVec Ideal S31x2048 .f32) (s : Fin 2) (z : Fin 4096) (q : Fin 2048) :
    val_main_v161 (F := Ideal) x0 x1 (ix3 s z q) = shifted x0 s z q 22 * x1 (ix2 22 q) := by
  pointwise [val_main_v156, val_main_v157, val_main_v158, val_main_v159, val_main_v160, val_main_v161]
  exact congrArg (fun y : EReal => y * x1 (ix2 22 q)) (padded_ref x0 s z q 22 _ (by show 22 + z.val = z.val + 22; omega))

theorem product23 (x0 : FVec Ideal S2x4096x2048 .f32) (x1 : FVec Ideal S31x2048 .f32) (s : Fin 2) (z : Fin 4096) (q : Fin 2048) :
    val_main_v168 (F := Ideal) x0 x1 (ix3 s z q) = shifted x0 s z q 23 * x1 (ix2 23 q) := by
  pointwise [val_main_v163, val_main_v164, val_main_v165, val_main_v166, val_main_v167, val_main_v168]
  exact congrArg (fun y : EReal => y * x1 (ix2 23 q)) (padded_ref x0 s z q 23 _ (by show 23 + z.val = z.val + 23; omega))

theorem product24 (x0 : FVec Ideal S2x4096x2048 .f32) (x1 : FVec Ideal S31x2048 .f32) (s : Fin 2) (z : Fin 4096) (q : Fin 2048) :
    val_main_v175 (F := Ideal) x0 x1 (ix3 s z q) = shifted x0 s z q 24 * x1 (ix2 24 q) := by
  pointwise [val_main_v170, val_main_v171, val_main_v172, val_main_v173, val_main_v174, val_main_v175]
  exact congrArg (fun y : EReal => y * x1 (ix2 24 q)) (padded_ref x0 s z q 24 _ (by show 24 + z.val = z.val + 24; omega))

theorem product25 (x0 : FVec Ideal S2x4096x2048 .f32) (x1 : FVec Ideal S31x2048 .f32) (s : Fin 2) (z : Fin 4096) (q : Fin 2048) :
    val_main_v182 (F := Ideal) x0 x1 (ix3 s z q) = shifted x0 s z q 25 * x1 (ix2 25 q) := by
  pointwise [val_main_v177, val_main_v178, val_main_v179, val_main_v180, val_main_v181, val_main_v182]
  exact congrArg (fun y : EReal => y * x1 (ix2 25 q)) (padded_ref x0 s z q 25 _ (by show 25 + z.val = z.val + 25; omega))

theorem product26 (x0 : FVec Ideal S2x4096x2048 .f32) (x1 : FVec Ideal S31x2048 .f32) (s : Fin 2) (z : Fin 4096) (q : Fin 2048) :
    val_main_v189 (F := Ideal) x0 x1 (ix3 s z q) = shifted x0 s z q 26 * x1 (ix2 26 q) := by
  pointwise [val_main_v184, val_main_v185, val_main_v186, val_main_v187, val_main_v188, val_main_v189]
  exact congrArg (fun y : EReal => y * x1 (ix2 26 q)) (padded_ref x0 s z q 26 _ (by show 26 + z.val = z.val + 26; omega))

theorem product27 (x0 : FVec Ideal S2x4096x2048 .f32) (x1 : FVec Ideal S31x2048 .f32) (s : Fin 2) (z : Fin 4096) (q : Fin 2048) :
    val_main_v196 (F := Ideal) x0 x1 (ix3 s z q) = shifted x0 s z q 27 * x1 (ix2 27 q) := by
  pointwise [val_main_v191, val_main_v192, val_main_v193, val_main_v194, val_main_v195, val_main_v196]
  exact congrArg (fun y : EReal => y * x1 (ix2 27 q)) (padded_ref x0 s z q 27 _ (by show 27 + z.val = z.val + 27; omega))

theorem product28 (x0 : FVec Ideal S2x4096x2048 .f32) (x1 : FVec Ideal S31x2048 .f32) (s : Fin 2) (z : Fin 4096) (q : Fin 2048) :
    val_main_v203 (F := Ideal) x0 x1 (ix3 s z q) = shifted x0 s z q 28 * x1 (ix2 28 q) := by
  pointwise [val_main_v198, val_main_v199, val_main_v200, val_main_v201, val_main_v202, val_main_v203]
  exact congrArg (fun y : EReal => y * x1 (ix2 28 q)) (padded_ref x0 s z q 28 _ (by show 28 + z.val = z.val + 28; omega))

theorem product29 (x0 : FVec Ideal S2x4096x2048 .f32) (x1 : FVec Ideal S31x2048 .f32) (s : Fin 2) (z : Fin 4096) (q : Fin 2048) :
    val_main_v210 (F := Ideal) x0 x1 (ix3 s z q) = shifted x0 s z q 29 * x1 (ix2 29 q) := by
  pointwise [val_main_v205, val_main_v206, val_main_v207, val_main_v208, val_main_v209, val_main_v210]
  exact congrArg (fun y : EReal => y * x1 (ix2 29 q)) (padded_ref x0 s z q 29 _ (by show 29 + z.val = z.val + 29; omega))

theorem product30 (x0 : FVec Ideal S2x4096x2048 .f32) (x1 : FVec Ideal S31x2048 .f32) (s : Fin 2) (z : Fin 4096) (q : Fin 2048) :
    val_main_v217 (F := Ideal) x0 x1 (ix3 s z q) = shifted x0 s z q 30 * x1 (ix2 30 q) := by
  pointwise [val_main_v212, val_main_v213, val_main_v214, val_main_v215, val_main_v216, val_main_v217]
  exact congrArg (fun y : EReal => y * x1 (ix2 30 q)) (padded_ref x0 s z q 30 _ (by show 30 + z.val = z.val + 30; omega))

/-- The sum of the thirty-one products. -/
theorem conv_ref (x0 : FVec Ideal S2x4096x2048 .f32) (x1 : FVec Ideal S31x2048 .f32) (s : Fin 2) (z : Fin 4096) (q : Fin 2048) :
    val_main_v218 (F := Ideal) x0 x1 (ix3 s z q) = ∑ j : Fin 31, shifted x0 s z q j * x1 (ix2 j q) := by
  rw [sum_taps]
  pointwise [val_main_v7, val_main_cst, val_main_v8, val_main_v15, val_main_v22, val_main_v29, val_main_v36, val_main_v43, val_main_v50, val_main_v57, val_main_v64, val_main_v71, val_main_v78, val_main_v85, val_main_v92, val_main_v99, val_main_v106, val_main_v113, val_main_v120, val_main_v127, val_main_v134, val_main_v141, val_main_v148, val_main_v155, val_main_v162, val_main_v169, val_main_v176, val_main_v183, val_main_v190, val_main_v197, val_main_v204, val_main_v211, val_main_v218]
  simp only [product0, product1, product2, product3, product4, product5, product6, product7, product8, product9, product10, product11, product12, product13, product14, product15, product16, product17, product18, product19, product20, product21, product22, product23, product24, product25, product26, product27, product28, product29, product30]
  try simp only [zero_add]

end Cert.Proof.Conv

end
-- ==== Proof.ConvValue.lean ====
/- The depthwise causal convolution's call: its value claim against the plain text. -/
module

public import proofs.«01_k».proof.Defs
public import proofs.«01_k».proof.Proof.ConvRefTaps
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Conv

open Cert.ConvIdeal Cert.ConvIdeal.Gen Cert.Proof.ConvIdeal Idealize.ShloMosaic Idealize.ShloMosaic.TcCoe Idealize.SL.Sem

/-- The reference's result is the same function of the arguments. -/
theorem ref_eq (x0 : FVec Ideal S2x4096x2048 .f32) (x1 : FVec Ideal S31x2048 .f32) (x2 x3 x4 : FVec Ideal S2048 .f32) :
    Cert.ConvRefIdeal.Read.val_main_v245 (F := Ideal) x0 x1 x2 x3 x4 = G x0 x1 x2 x3 x4 := by
  funext i
  idx_vars i
  pointwise [Cert.ConvRefIdeal.Read.val_main_v219, Cert.ConvRefIdeal.Read.val_main_v220, Cert.ConvRefIdeal.Read.val_main_v221, Cert.ConvRefIdeal.Read.val_main_v222, Cert.ConvRefIdeal.Read.val_main_v223, Cert.ConvRefIdeal.Read.val_main_v224, Cert.ConvRefIdeal.Read.val_main_v225, Cert.ConvRefIdeal.Read.val_main_v226, Cert.ConvRefIdeal.Read.val_main_v227, Cert.ConvRefIdeal.Read.val_main_v228, Cert.ConvRefIdeal.Read.val_main_v229, Cert.ConvRefIdeal.Read.val_main_v230, Cert.ConvRefIdeal.Read.val_main_v231, Cert.ConvRefIdeal.Read.val_main_v232, Cert.ConvRefIdeal.Read.val_main_v233, Cert.ConvRefIdeal.Read.val_main_v234, Cert.ConvRefIdeal.Read.val_main_v235, Cert.ConvRefIdeal.Read.val_main_v236, Cert.ConvRefIdeal.Read.val_main_v237, Cert.ConvRefIdeal.Read.val_main_v238, Cert.ConvRefIdeal.Read.val_main_v239, Cert.ConvRefIdeal.Read.val_main_v240, Cert.ConvRefIdeal.Read.val_main_v241, Cert.ConvRefIdeal.Read.val_main_v242, Cert.ConvRefIdeal.Read.val_main_v243, Cert.ConvRefIdeal.Read.val_main_v244, Cert.ConvRefIdeal.Read.val_main_v245, Cert.ConvRefIdeal.Read.val_main_call1_v0, Cert.ConvRefIdeal.Read.val_main_call1_v1, Cert.ConvRefIdeal.Read.val_main_call1_v2, Cert.ConvRefIdeal.Read.val_main_call1_v3, Cert.ConvRefIdeal.Read.val_main_call1_v4, Cert.ConvRefIdeal.Read.val_main_call1_v5, Cert.ConvRefIdeal.Read.val_main_call1_cst, Cert.ConvRefIdeal.Read.val_main_call1_cst_0, Cert.ConvRefIdeal.Read.val_main_cst_0, Cert.ConvRefIdeal.Read.val_main_cst_1, Cert.ConvRefIdeal.Read.val_main_cst_2, Cert.ConvRefIdeal.Read.val_main_cst_3, Cert.ConvRefIdeal.Read.val_main_cst_4, G, rowNormed, rowCentred, Ideal.logistic]
  simp only [conv_ref]

/-- The call's result and the reference's are the same function of the arguments. -/
theorem algebraic : Cert.algebraic_ConvIdeal_ConvRefIdeal := by
  pair_intro
  · run_from run_main m g
  · run_from Cert.ConvRefIdeal.Value.run m' g'
    rw [Cert.ConvRefIdeal.Read.val_main_v245_eq]
    obtain ⟨a0, a1, a2, a3, a4⟩ := hagree c
    refine (ref_eq _ _ _ _ _).trans ?_
    show G (m' (c.tc.loc Cert.ConvRefIdeal.main_arg0)) (m' (c.tc.loc Cert.ConvRefIdeal.main_arg1))
      (m' (c.tc.loc Cert.ConvRefIdeal.main_arg2)) (m' (c.tc.loc Cert.ConvRefIdeal.main_arg3))
      (m' (c.tc.loc Cert.ConvRefIdeal.main_arg4)) = _
    rw [a0, a1, a2, a3, a4]
    exact (final m c).symm

/-- The reference keeps its arguments and leaves nothing running. -/
theorem ref_frame : Cert.quiescent_ConvRefIdeal := by
  intro m g _
  exact (θ_run Cert.ConvRefIdeal.defs _ _).mono
    (fun r h => ⟨fun c => (h c).2, sem_eq_zero_of_no_sems (by decide) r.2⟩)
    (Cert.ConvRefIdeal.Value.run (F := Ideal) m g)

end Cert.Proof.Conv

end
-- ==== Proof.MlpValue.lean ====
module

public import proofs.«01_k».proof.Defs
public import proofs.«01_k».proof.Proof.Gen.MlpIdeal.Value
public import proofs.«01_k».proof.Proof.Gen.MlpRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.Proof.Mlp

open Cert.MlpIdeal Cert.MlpIdeal.Gen Idealize.ShloMosaic Idealize.ShloMosaic.TcCoe Idealize.SL.Sem

variable (m : (ℓ : Loc nD τ sig) → Buf (Elt Ideal) ℓ)

/-- Row `r` of the input divided by its root mean square, times the layer's gain. -/
def HN (x0 : FVec Ideal S8192x2048 .f32) (x1 : FVec Ideal S2x2048 .f32) (r : Fin 8192) (k : Fin 2048) : EReal :=
  x0 (ix2 r k) * Ideal.rsqrt (Ideal.div (∑ j : Fin 2048, x0 (ix2 r j) * x0 (ix2 r j)) (Ideal.ofBits FTy.f32 1157627904#32)
    + Ideal.ofBits FTy.f32 897988541#32) * x1 (ix2 1 k)

/-- The hidden unit `l` of row `r`: the positive part of the normalised row's product with column `l`. -/
def A (x0 : FVec Ideal S8192x2048 .f32) (x1 : FVec Ideal S2x2048 .f32) (x2 : FVec Ideal S2x2048x8192 .f32)
    (r : Fin 8192) (l : Fin 8192) : EReal :=
  max (∑ k : Fin 2048, HN x0 x1 r k * x2 (ix3 1 k l)) 0

/-- What hidden unit `l` adds to row `r`, column `q`. -/
def B (x0 : FVec Ideal S8192x2048 .f32) (x1 : FVec Ideal S2x2048 .f32) (x2 : FVec Ideal S2x2048x8192 .f32)
    (x3 : FVec Ideal S2x8192x2048 .f32) (r : Fin 8192) (q : Fin 2048) (l : Fin 8192) : EReal :=
  A x0 x1 x2 r l * A x0 x1 x2 r l * x3 (ix3 1 l q)

/-- The same as a function of a natural number, zero past the last hidden unit. -/
def T (x0 : FVec Ideal S8192x2048 .f32) (x1 : FVec Ideal S2x2048 .f32) (x2 : FVec Ideal S2x2048x8192 .f32)
    (x3 : FVec Ideal S2x8192x2048 .f32) (r : Fin 8192) (q : Fin 2048) (l : ℕ) : EReal :=
  if h : l < 8192 then B x0 x1 x2 x3 r q ⟨l, h⟩ else 0

/-- The result: the input plus the sum of all hidden units' parts. -/
def G (x0 : FVec Ideal S8192x2048 .f32) (x1 : FVec Ideal S2x2048 .f32) (x2 : FVec Ideal S2x2048x8192 .f32)
    (x3 : FVec Ideal S2x8192x2048 .f32) : FVec Ideal S8192x2048 .f32 :=
  fun i => x0 (ix2 (i 0) (i 1)) + ∑ l : Fin 8192, B x0 x1 x2 x3 (i 0) (i 1) l

/-- The block each window shows at a point. -/
theorem idx : ∀ t : Fin cfg0.N, win0_0.index t = ![t.val / 8, 0]
    ∧ win0_1.index t = ![0, 0] ∧ win0_2.index t = ![1, 0, t.val % 8] ∧ win0_3.index t = ![1, t.val % 8, 0]
    ∧ win0_4.index t = ![t.val / 8, 0] := by
  exact (by decide +kernel : ∀ t : Fin grid0.N, win0_0.index t = ![t.val / 8, 0]
    ∧ win0_1.index t = ![0, 0] ∧ win0_2.index t = ![1, 0, t.val % 8] ∧ win0_3.index t = ![1, t.val % 8, 0]
    ∧ win0_4.index t = ![t.val / 8, 0])

/-- The row of the array which row `p` of point `t`'s block is. -/
def row (n : ℕ) (h : n < cfg0.N) (p : Fin 512) : Fin 8192 :=
  ⟨512 * (n / 8) + p.val, by have := lt_of_lt_of_eq h (show cfg0.N = 128 from N_0); omega⟩

/-- An entry of the input. -/
def X (x0 : FVec Ideal S8192x2048 .f32) (r : Fin 8192) (q : Fin 2048) : EReal := x0 (ix2 r q)

/-- The normalised rows the first point of a row block puts in its scratch. -/
theorem norm_pt (c : Dev nD) (t : Fin cfg0.N) (p : Fin 512) (q : Fin 2048) :
    k0_pay1 (iblk m c 0 t) (iblk m c 1 t) (ix2 p q) =
      HN (m (c.tc.loc main_arg0)) (m (c.tc.loc main_arg1)) (row t.val t.isLt p) q := by
  pointwise [k0_pay1, HN]
  blk_point [iblk, V, idx t, row]

/-- A point adds the parts of its 1024 hidden units to what the output holds. -/
theorem part_pt (c : Dev nD) (t : Fin cfg0.N) (S : FVec Ideal S512x2048 .bf16) (O : FVec Ideal S512x2048 .f32)
    (p : Fin 512) (q : Fin 2048)
    (hS : ∀ k : Fin 2048, S (ix2 p k) = HN (m (c.tc.loc main_arg0)) (m (c.tc.loc main_arg1)) (row t.val t.isLt p) k) :
    k0_pay2 S (iblk m c 2 t) O (iblk m c 3 t) (ix2 p q) = O (ix2 p q) + ∑ l : Fin 1024,
      T (m (c.tc.loc main_arg0)) (m (c.tc.loc main_arg1)) (m (c.tc.loc main_arg2)) (m (c.tc.loc main_arg3))
        (row t.val t.isLt p) q (t.val % 8 * 1024 + l.val) := by
  pointwise [k0_pay2]
  simp only [hS]
  congr 1
  refine Finset.sum_congr rfl fun l _ => ?_
  have hl : t.val % 8 * 1024 + l.val < 8192 := by omega
  unfold T
  rw [dif_pos hl]
  unfold B A
  congr 1
  · congr 2 <;> refine Finset.sum_congr rfl fun k _ => ?_ <;> congr 1 <;> blk_ext [iblk, V, idx t]
  · blk_ext [iblk, V, idx t]

/-- What the first point of a row block leaves in its scratch and in the output's buffer. -/
theorem start_pt (c : Dev nD) (t : Fin cfg0.N) (h0 : t.val % 8 = 0) (p : Fin 512) :
    (∀ q : Fin 2048, (outsAt0 m c t.val t.isLt).2 (ix2 p q) =
      HN (m (c.tc.loc main_arg0)) (m (c.tc.loc main_arg1)) (row t.val t.isLt p) q)
    ∧ ∀ q : Fin 2048, (outsAt0 m c t.val t.isLt).1 (ix2 p q) = X (m (c.tc.loc main_arg0)) (row t.val t.isLt p) q
      + ∑ j ∈ Finset.range (t.val % 8 + 1), ∑ l : Fin 1024,
        T (m (c.tc.loc main_arg0)) (m (c.tc.loc main_arg1)) (m (c.tc.loc main_arg2)) (m (c.tc.loc main_arg3))
          (row t.val t.isLt p) q (j * 1024 + l.val) := by
  have e := outsAt0_A m c t h0
  frame_out at e
  rw [e]
  refine ⟨fun q => norm_pt m c t p q, fun q => ?_⟩
  dsimp only
  refine (part_pt m c t _ _ p q (fun k => norm_pt m c t p k)).trans ?_
  rw [h0, Finset.sum_range_one]
  refine congr_arg₂ _ ?_ rfl
  unfold X
  blk_point [iblk, V, idx t, row]

/-- After every point the scratch holds the row block's normalised rows, and the output's buffer
the input block plus the parts of the hidden units met so far in the row block. -/
theorem inv (c : Dev nD) (n : ℕ) : ∀ (h : n < cfg0.N) (p : Fin 512),
    (∀ q : Fin 2048, (outsAt0 m c n h).2 (ix2 p q) = HN (m (c.tc.loc main_arg0)) (m (c.tc.loc main_arg1)) (row n h p) q)
    ∧ ∀ q : Fin 2048, (outsAt0 m c n h).1 (ix2 p q) = X (m (c.tc.loc main_arg0)) (row n h p) q
      + ∑ j ∈ Finset.range (n % 8 + 1), ∑ l : Fin 1024,
        T (m (c.tc.loc main_arg0)) (m (c.tc.loc main_arg1)) (m (c.tc.loc main_arg2)) (m (c.tc.loc main_arg3))
          (row n h p) q (j * 1024 + l.val) := by
  induction n with
  | zero =>
    intro h p
    exact start_pt m c ⟨0, h⟩ rfl p
  | succ n ih =>
    intro h p
    by_cases h0 : (n + 1) % 8 = 0
    · exact start_pt m c ⟨n + 1, h⟩ h0 p
    · have hp : row (n + 1) h p = row n (Nat.lt_of_succ_lt h) p := Fin.ext (by show 512 * ((n + 1) / 8) + _ = 512 * (n / 8) + _; omega)
      have e := outsAt0_B m c ⟨n + 1, h⟩ h0
      frame_out at e
      obtain ⟨i1, i2⟩ := ih (Nat.lt_of_succ_lt h) p
      rw [e]
      refine ⟨fun q => ?_, fun q => ?_⟩
      · show (outsAt0 m c n (Nat.lt_of_succ_lt h)).2 (ix2 p q) = _
        rw [hp]
        exact i1 q
      · dsimp only
        rw [read_unread_whole]
        refine (part_pt m c ⟨n + 1, h⟩ _ _ p q (fun k => (i1 k).trans (by rw [← hp]))).trans ?_
        have h8 : (n + 1) % 8 + 1 = (n % 8 + 1) + 1 := by omega
        have h9 : n % 8 + 1 = (n + 1) % 8 := by omega
        rw [h8, Finset.sum_range_succ, ← add_assoc, h9]
        refine congr_arg₂ _ ?_ rfl
        rw [hp, ← h9]
        exact i2 q

/-- A sum over the chunks and the units of a chunk is the sum over all hidden units. -/
theorem sum_T (x0 : FVec Ideal S8192x2048 .f32) (x1 : FVec Ideal S2x2048 .f32) (x2 : FVec Ideal S2x2048x8192 .f32)
    (x3 : FVec Ideal S2x8192x2048 .f32) (r : Fin 8192) (q : Fin 2048) :
    ∑ j ∈ Finset.range 8, ∑ l : Fin 1024, T x0 x1 x2 x3 r q (j * 1024 + l.val) = ∑ l : Fin 8192, B x0 x1 x2 x3 r q l := by
  rw [Finset.sum_range]
  exact Fin.sum_mul_add_congr (F := fun (j : Fin 8) (l : Fin 1024) => T x0 x1 x2 x3 r q (j.val * 1024 + l.val))
    fun s k hl => dif_pos hl

/-- The kernel's output array is the stated function of its arguments. -/
theorem final (c : Dev nD) : (dats m 0 c).arrAt 4 (cfgs 0).N =
    G (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  idx_vars y
  have h7 : t.val % 8 + 1 = 8 :=
    (by decide +kernel : ∀ t : Fin grid0.N, win0_4.flush t = true → t.val % 8 + 1 = 8) t hf
  have e := (inv m c t.val t.isLt y0).2 y1
  rw [h7, sum_T] at e
  refine e.trans ?_
  unfold X
  pointwise [G]
  blk_point [iblk, V, idx t, row]

theorem ref_eq (x0 x1 x2 x3) :
    Cert.MlpRefIdeal.Read.val_main_v23 (F := Ideal) x0 x1 x2 x3 = G x0 x1 x2 x3 := by
  funext i
  idx_vars i
  pointwise [Cert.MlpRefIdeal.Read.val_main_v0, Cert.MlpRefIdeal.Read.val_main_cst, Cert.MlpRefIdeal.Read.val_main_v1, Cert.MlpRefIdeal.Read.val_main_v2, Cert.MlpRefIdeal.Read.val_main_cst_0, Cert.MlpRefIdeal.Read.val_main_v3, Cert.MlpRefIdeal.Read.val_main_v4, Cert.MlpRefIdeal.Read.val_main_cst_1, Cert.MlpRefIdeal.Read.val_main_v5, Cert.MlpRefIdeal.Read.val_main_v6, Cert.MlpRefIdeal.Read.val_main_v7, Cert.MlpRefIdeal.Read.val_main_v8, Cert.MlpRefIdeal.Read.val_main_v9, Cert.MlpRefIdeal.Read.val_main_v10, Cert.MlpRefIdeal.Read.val_main_v11, Cert.MlpRefIdeal.Read.val_main_v12, Cert.MlpRefIdeal.Read.val_main_v13, Cert.MlpRefIdeal.Read.val_main_v14, Cert.MlpRefIdeal.Read.val_main_v15, Cert.MlpRefIdeal.Read.val_main_v16, Cert.MlpRefIdeal.Read.val_main_v17, Cert.MlpRefIdeal.Read.val_main_call0_cst, Cert.MlpRefIdeal.Read.val_main_call0_v0, Cert.MlpRefIdeal.Read.val_main_v18, Cert.MlpRefIdeal.Read.val_main_v19, Cert.MlpRefIdeal.Read.val_main_v20, Cert.MlpRefIdeal.Read.val_main_v21, Cert.MlpRefIdeal.Read.val_main_v22, Cert.MlpRefIdeal.Read.val_main_v23, G, B, A, HN]

theorem algebraic : Cert.algebraic_MlpIdeal_MlpRefIdeal := by
  pair_intro
  · run_from run_main m g
  · run_from Cert.MlpRefIdeal.Value.run m' g'
    rw [Cert.MlpRefIdeal.Read.val_main_v23_eq]
    exact (ref_eq _ _ _ _).trans (final m c).symm

theorem ref_frame : Cert.quiescent_MlpRefIdeal := by
  intro m g _
  exact (θ_run Cert.MlpRefIdeal.defs _ _).mono
    (fun r h => ⟨fun c => (h c).2, sem_eq_zero_of_no_sems (by decide) r.2⟩)
    (Cert.MlpRefIdeal.Value.run (F := Ideal) m g)

end Cert.Proof.Mlp

end
-- ==== Proof.PleValue.lean ====
module

public import proofs.«01_k».proof.Defs
public import proofs.«01_k».proof.Proof.Gen.PleIdeal.Value
public import proofs.«01_k».proof.Proof.Gen.PleRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Ple

open Cert.PleIdeal Cert.PleIdeal.Gen Idealize.ShloMosaic Idealize.ShloMosaic.TcCoe Idealize.SL.Sem

variable (m : (ℓ : Loc nD τ sig) → Buf (Elt Ideal) ℓ)

/-- The gated update of one block of rows, before the norm: the row plus the logistic of its gate product times its
    projected embedding. -/
def H (x0 : FVec Ideal S512x2048 .f32) (x1 : FVec Ideal S1x512x256 .f32) (x2 : FVec Ideal S1x2048x2048 .bf16)
    (x3 : FVec Ideal S1x256x2048 .bf16) : FVec Ideal S512x2048 .f32 :=
  fun i => x0 (ix2 (i 0) (i 1)) + FloatOps.logistic (∑ k : Fin 2048, x0 (ix2 (i 0) k) * x2 (ix3 0 k (i 1)))
    * ∑ k : Fin 256, x1 (ix3 0 (i 0) k) * x3 (ix3 0 k (i 1))

/-- The gated update of the whole array, before the norm. -/
def U (x0 : FVec Ideal S8192x2048 .f32) (x1 : FVec Ideal S2x2x4096x256 .f32) (x2 : FVec Ideal S2x2048x2048 .f32)
    (x3 : FVec Ideal S2x256x2048 .f32) : FVec Ideal S8192x2048 .f32 :=
  fun i => x0 (ix2 (i 0) (i 1)) + FloatOps.logistic (∑ k : Fin 2048, x0 (ix2 (i 0) k) * x2 (ix3 1 k (i 1)))
    * ∑ k : Fin 256, x1 (ix4 1 ⟨(i 0).val / 4096, by have := (i 0).isLt; change _ < 8192 at this; omega⟩
        ⟨(i 0).val % 4096, Nat.mod_lt _ (by decide)⟩ k) * x3 (ix3 1 k (i 1))

/-- The result: the update divided by its root mean square, times the final gain. -/
def G (x0 : FVec Ideal S8192x2048 .f32) (x1 : FVec Ideal S2x2x4096x256 .f32) (x2 : FVec Ideal S2x2048x2048 .f32)
    (x3 : FVec Ideal S2x256x2048 .f32) (x4 : FVec Ideal S2048 .f32) : FVec Ideal S8192x2048 .f32 :=
  fun i => U x0 x1 x2 x3 (ix2 (i 0) (i 1)) * Ideal.rsqrt (Ideal.div
      (∑ k : Fin 2048, U x0 x1 x2 x3 (ix2 (i 0) k) * U x0 x1 x2 x3 (ix2 (i 0) k))
      (Ideal.ofBits FTy.f32 1157627904#32) + Ideal.ofBits FTy.f32 897988541#32) * x4 (ix1 (i 1))

theorem idx : ∀ t : Fin cfg0.N, win0_0.index t = ![t.val, 0]
    ∧ win0_1.index t = ![1, t.val, 0] ∧ win0_2.index t = ![1, 0, 0] ∧ win0_3.index t = ![1, 0, 0]
    ∧ win0_4.index t = ![0, 0] ∧ win0_5.index t = ![t.val, 0] := by
  exact (by decide +kernel : ∀ t : Fin grid0.N, win0_0.index t = ![t.val, 0]
    ∧ win0_1.index t = ![1, t.val, 0] ∧ win0_2.index t = ![1, 0, 0] ∧ win0_3.index t = ![1, 0, 0]
    ∧ win0_4.index t = ![0, 0] ∧ win0_5.index t = ![t.val, 0])

theorem final (c : Dev nD) : (dats m 0 c).arrAt 5 (cfgs 0).N =
    G (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after0_5]
  unfold outsAt0
  frame_out
  generalize hA : View.readCov (Val := Elt Ideal) (View.whole cc0_scratch0) _ _ = A
  have e : A = H (iblk m c 0 t) (iblk m c 1 t) (iblk m c 2 t) (iblk m c 3 t) := by
    rw [← hA, View.readCov_eq_canon' (Val := Elt Ideal)]
    funext j
    idx_vars j
    simp only [show (Rect.unit (s := S512x2048) ![0, 0] ![512, 2048] inb_S512x2048_S512x2048_0_0).toLoadRect.idx (ix2 j0 j1) = ix2 j0 j1 from by idx_ext]
    canon_tiles x h
    all_goals
      idx_vars x
      pointwise [k0_pay2, k0_pay3, k0_pay4, k0_pay5, k0_pay6, k0_pay7, k0_pay8, H]
      obtain rfl : j0 = x0 := Fin.ext h0
      simp only [← h1]
  rw [e]
  pointwise [k0_pay1, k0_pay9, H, G, U]
  blk_point [iblk, V, idx t]

theorem ref_eq (x0 x1 x2 x3 x4) :
    Cert.PleRefIdeal.Read.val_main_v30 (F := Ideal) x0 x1 x2 x3 x4 = G x0 x1 x2 x3 x4 := by
  funext i
  idx_vars i
  pointwise [Cert.PleRefIdeal.Read.val_main_v0, Cert.PleRefIdeal.Read.val_main_v1, Cert.PleRefIdeal.Read.val_main_v2, Cert.PleRefIdeal.Read.val_main_v3, Cert.PleRefIdeal.Read.val_main_v4, Cert.PleRefIdeal.Read.val_main_v5, Cert.PleRefIdeal.Read.val_main_cst, Cert.PleRefIdeal.Read.val_main_v6, Cert.PleRefIdeal.Read.val_main_v7, Cert.PleRefIdeal.Read.val_main_cst_0, Cert.PleRefIdeal.Read.val_main_v8, Cert.PleRefIdeal.Read.val_main_v9, Cert.PleRefIdeal.Read.val_main_v10, Cert.PleRefIdeal.Read.val_main_v11, Cert.PleRefIdeal.Read.val_main_v12, Cert.PleRefIdeal.Read.val_main_v13, Cert.PleRefIdeal.Read.val_main_v14, Cert.PleRefIdeal.Read.val_main_v15, Cert.PleRefIdeal.Read.val_main_v16, Cert.PleRefIdeal.Read.val_main_v17, Cert.PleRefIdeal.Read.val_main_cst_1, Cert.PleRefIdeal.Read.val_main_v18, Cert.PleRefIdeal.Read.val_main_v19, Cert.PleRefIdeal.Read.val_main_cst_2, Cert.PleRefIdeal.Read.val_main_v20, Cert.PleRefIdeal.Read.val_main_v21, Cert.PleRefIdeal.Read.val_main_cst_3, Cert.PleRefIdeal.Read.val_main_v22, Cert.PleRefIdeal.Read.val_main_v23, Cert.PleRefIdeal.Read.val_main_v24, Cert.PleRefIdeal.Read.val_main_v25, Cert.PleRefIdeal.Read.val_main_v26, Cert.PleRefIdeal.Read.val_main_v27, Cert.PleRefIdeal.Read.val_main_v28, Cert.PleRefIdeal.Read.val_main_v29, Cert.PleRefIdeal.Read.val_main_v30, G, U, Ideal.logistic]

theorem algebraic : Cert.algebraic_PleIdeal_PleRefIdeal := by
  pair_intro
  · run_from run_main m g
  · run_from Cert.PleRefIdeal.Value.run m' g'
    rw [Cert.PleRefIdeal.Read.val_main_v30_eq]
    exact (ref_eq _ _ _ _ _).trans (final m c).symm

theorem ref_frame : Cert.quiescent_PleRefIdeal := by
  intro m g _
  exact (θ_run Cert.PleRefIdeal.defs _ _).mono
    (fun r h => ⟨fun c => (h c).2, sem_eq_zero_of_no_sems (by decide) r.2⟩)
    (Cert.PleRefIdeal.Value.run (F := Ideal) m g)

end Cert.Proof.Ple

end
-- ==== Proof.GluValue.lean ====
module

public import proofs.«01_k».proof.Defs
public import proofs.«01_k».proof.Proof.Gen.GluIdeal.Value
public import proofs.«01_k».proof.Proof.Gen.GluRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Glu

open Cert.GluIdeal Cert.GluIdeal.Gen Idealize.ShloMosaic Idealize.ShloMosaic.TcCoe Idealize.SL.Sem

variable (m : (ℓ : Loc nD τ sig) → Buf (Elt Ideal) ℓ)

/-- The gated linear unit: the left half of the product times the logistic of its right half. -/
def G (x0 : FVec Ideal S8192x2048 .bf16) (x1 : FVec Ideal S1x2048x4096 .f32) (x2 : FVec Ideal S1x4096 .f32) :
    FVec Ideal S8192x2048 .f32 :=
  fun i => (∑ k : Fin 2048, x0 (ix2 (i 0) k) * x1 (ix3 0 k ⟨(i 1).val, by have := (i 1).isLt; change _ < 2048 at this; omega⟩)
      + x2 (ix2 0 ⟨(i 1).val, by have := (i 1).isLt; change _ < 2048 at this; omega⟩))
    * FloatOps.logistic (∑ k : Fin 2048, x0 (ix2 (i 0) k) * x1 (ix3 0 k ⟨2048 + (i 1).val, by have := (i 1).isLt; change _ < 2048 at this; omega⟩)
      + x2 (ix2 0 ⟨2048 + (i 1).val, by have := (i 1).isLt; change _ < 2048 at this; omega⟩))

theorem idx : ∀ t : Fin cfg0.N, win0_0.index t = ![t.val / 4, 0]
    ∧ win0_1.index t = ![0, 0, t.val % 4] ∧ win0_2.index t = ![0, 0, t.val % 4 + 4] ∧ win0_3.index t = ![0, t.val % 4]
    ∧ win0_4.index t = ![0, t.val % 4 + 4] ∧ win0_5.index t = ![t.val / 4, t.val % 4] := by
  exact (by decide +kernel : ∀ t : Fin grid0.N, win0_0.index t = ![t.val / 4, 0]
    ∧ win0_1.index t = ![0, 0, t.val % 4] ∧ win0_2.index t = ![0, 0, t.val % 4 + 4] ∧ win0_3.index t = ![0, t.val % 4]
    ∧ win0_4.index t = ![0, t.val % 4 + 4] ∧ win0_5.index t = ![t.val / 4, t.val % 4])

theorem final (c : Dev nD) : (dats m 0 c).arrAt 5 (cfgs 0).N =
    G (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  pointwise [k0_pay1, G]
  blk_point [iblk, V, idx t]

theorem ref_eq (x0 : FVec Ideal S8192x2048 .bf16) (x1 : FVec Ideal S1x2048x4096 .f32) (x2 : FVec Ideal S1x4096 .f32) :
    Cert.GluRefIdeal.Read.val_main_v15 (F := Ideal) x0 x1 x2 = G x0 x1 x2 := by
  funext i
  idx_vars i
  pointwise [Cert.GluRefIdeal.Read.val_main_v0, Cert.GluRefIdeal.Read.val_main_v1, Cert.GluRefIdeal.Read.val_main_v2, Cert.GluRefIdeal.Read.val_main_v3, Cert.GluRefIdeal.Read.val_main_v4, Cert.GluRefIdeal.Read.val_main_v5, Cert.GluRefIdeal.Read.val_main_v6, Cert.GluRefIdeal.Read.val_main_v7, Cert.GluRefIdeal.Read.val_main_v8, Cert.GluRefIdeal.Read.val_main_v9, Cert.GluRefIdeal.Read.val_main_v10, Cert.GluRefIdeal.Read.val_main_cst, Cert.GluRefIdeal.Read.val_main_v11, Cert.GluRefIdeal.Read.val_main_v12, Cert.GluRefIdeal.Read.val_main_cst_0, Cert.GluRefIdeal.Read.val_main_v13, Cert.GluRefIdeal.Read.val_main_v14, Cert.GluRefIdeal.Read.val_main_v15, G, Ideal.logistic]

theorem algebraic : Cert.algebraic_GluIdeal_GluRefIdeal := by
  pair_intro
  · run_from run_main m g
  · run_from Cert.GluRefIdeal.Value.run m' g'
    rw [Cert.GluRefIdeal.Read.val_main_v15_eq]
    exact (ref_eq _ _ _).trans (final m c).symm

theorem ref_frame : Cert.quiescent_GluRefIdeal := by
  intro m g _
  exact (θ_run Cert.GluRefIdeal.defs _ _).mono
    (fun r h => ⟨fun c => (h c).2, sem_eq_zero_of_no_sems (by decide) r.2⟩)
    (Cert.GluRefIdeal.Value.run (F := Ideal) m g)

end Cert.Proof.Glu

end
-- ==== Proof.ResValue.lean ====
module

public import proofs.«01_k».proof.Defs
public import proofs.«01_k».proof.Proof.Gen.ResIdeal.Value
public import proofs.«01_k».proof.Proof.Gen.ResRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Res

open Cert.ResIdeal Cert.ResIdeal.Gen Idealize.ShloMosaic Idealize.ShloMosaic.TcCoe Idealize.SL.Sem

variable (m : (ℓ : Loc nD τ sig) → Buf (Elt Ideal) ℓ)

/-- The result of the residual product at row `r` and column `l`. -/
def G (x0 : FVec Ideal S8192x2048 .bf16) (x1 : FVec Ideal S1x2048x2048 .f32) (x2 : FVec Ideal S1x2048 .f32)
    (x3 : FVec Ideal S8192x2048 .f32) : FVec Ideal S8192x2048 .f32 :=
  fun i => x3 (ix2 (i 0) (i 1)) + (∑ k : Fin 2048, x0 (ix2 (i 0) k) * x1 (ix3 0 k (i 1)) + x2 (ix2 0 (i 1)))

theorem idx : ∀ t : Fin cfg0.N, win0_0.index t = ![(grid0.coords t 0).val, 0]
    ∧ win0_1.index t = ![0, 0, 0] ∧ win0_2.index t = ![0, 0] ∧ win0_3.index t = ![(grid0.coords t 0).val, 0]
    ∧ win0_4.index t = ![(grid0.coords t 0).val, 0] := by
  exact (by decide +kernel : ∀ t : Fin grid0.N, win0_0.index t = ![(grid0.coords t 0).val, 0]
    ∧ win0_1.index t = ![0, 0, 0] ∧ win0_2.index t = ![0, 0] ∧ win0_3.index t = ![(grid0.coords t 0).val, 0]
    ∧ win0_4.index t = ![(grid0.coords t 0).val, 0])

/-- One block of the result, from the four blocks that the body reads. -/
def E (x0 : FVec Ideal S512x2048 .bf16) (x1 : FVec Ideal S1x2048x2048 .bf16) (x2 : FVec Ideal S1x2048 .f32)
    (x3 : FVec Ideal S512x2048 .f32) : FVec Ideal S512x2048 .f32 :=
  fun i => x3 (ix2 (i 0) (i 1)) + (∑ k : Fin 2048, x0 (ix2 (i 0) k) * x1 (ix3 0 k (i 1)) + x2 (ix2 0 (i 1)))

theorem out_eq (x0 : FVec Ideal S512x2048 .bf16) (x1 : FVec Ideal S1x2048x2048 .bf16) (x2 : FVec Ideal S1x2048 .f32)
    (x3 : FVec Ideal S512x2048 .f32) (y : S512x2048.Idx) : out0_4 (F := Ideal) x0 x1 x2 x3 y = E x0 x1 x2 x3 y := by
  frame_out
  canon_tiles x h
  all_goals
    idx_vars y
    idx_vars x
    pointwise [k0_pay1, k0_pay2, k0_pay3, k0_pay4, k0_pay5, k0_pay6, E]
    obtain rfl : y0 = x0 := Fin.ext h0
    simp only [← h1]

theorem final (c : Dev nD) : (dats m 0 c).arrAt 4 (cfgs 0).N =
    G (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  rw [out_eq]
  pointwise [E, G]
  blk_point [iblk, V, idx t]

theorem ref_eq (x0 : FVec Ideal S8192x2048 .bf16) (x1 : FVec Ideal S1x2048x2048 .f32) (x2 : FVec Ideal S1x2048 .f32)
    (x3 : FVec Ideal S8192x2048 .f32) : Cert.ResRefIdeal.Read.val_main_v7 (F := Ideal) x0 x1 x2 x3 = G x0 x1 x2 x3 := by
  funext i
  idx_vars i
  pointwise [Cert.ResRefIdeal.Read.val_main_v7, Cert.ResRefIdeal.Read.val_main_v6, Cert.ResRefIdeal.Read.val_main_v5, Cert.ResRefIdeal.Read.val_main_v4, Cert.ResRefIdeal.Read.val_main_v3, Cert.ResRefIdeal.Read.val_main_v2, Cert.ResRefIdeal.Read.val_main_v1, Cert.ResRefIdeal.Read.val_main_v0, G]

theorem algebraic : Cert.algebraic_ResIdeal_ResRefIdeal := by
  pair_intro
  · run_from run_main m g
  · run_from Cert.ResRefIdeal.Value.run m' g'
    rw [Cert.ResRefIdeal.Read.val_main_v7_eq]
    exact (ref_eq _ _ _ _).trans (final m c).symm

theorem ref_frame : Cert.quiescent_ResRefIdeal := by
  intro m g _
  exact (θ_run Cert.ResRefIdeal.defs _ _).mono
    (fun r h => ⟨fun c => (h c).2, sem_eq_zero_of_no_sems (by decide) r.2⟩)
    (Cert.ResRefIdeal.Value.run (F := Ideal) m g)

end Cert.Proof.Res

end
-- ==== Proof.Ple0Value.lean ====
module

public import proofs.«01_k».proof.Defs
public import proofs.«01_k».proof.Proof.Gen.Ple0Ideal.Value
public import proofs.«01_k».proof.Proof.Gen.Ple0RefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Ple0

open Cert.Ple0Ideal Cert.Ple0Ideal.Gen Idealize.ShloMosaic Idealize.ShloMosaic.TcCoe Idealize.SL.Sem

variable (m : (ℓ : Loc nD τ sig) → Buf (Elt Ideal) ℓ)

/-- The gated update of one block of rows, before the norm: the row plus the logistic of its gate product times its
    projected embedding. -/
def H (x0 : FVec Ideal S512x2048 .f32) (x1 : FVec Ideal S1x512x256 .f32) (x2 : FVec Ideal S1x2048x2048 .bf16)
    (x3 : FVec Ideal S1x256x2048 .bf16) : FVec Ideal S512x2048 .f32 :=
  fun i => x0 (ix2 (i 0) (i 1)) + FloatOps.logistic (∑ k : Fin 2048, x0 (ix2 (i 0) k) * x2 (ix3 0 k (i 1)))
    * ∑ k : Fin 256, x1 (ix3 0 (i 0) k) * x3 (ix3 0 k (i 1))

/-- The gated update of the whole array, before the norm. -/
def U (x0 : FVec Ideal S8192x2048 .f32) (x1 : FVec Ideal S2x2x4096x256 .f32) (x2 : FVec Ideal S2x2048x2048 .f32)
    (x3 : FVec Ideal S2x256x2048 .f32) : FVec Ideal S8192x2048 .f32 :=
  fun i => x0 (ix2 (i 0) (i 1)) + FloatOps.logistic (∑ k : Fin 2048, x0 (ix2 (i 0) k) * x2 (ix3 0 k (i 1)))
    * ∑ k : Fin 256, x1 (ix4 0 ⟨(i 0).val / 4096, by have := (i 0).isLt; change _ < 8192 at this; omega⟩
        ⟨(i 0).val % 4096, Nat.mod_lt _ (by decide)⟩ k) * x3 (ix3 0 k (i 1))

/-- The second result: the update divided by its root mean square, times the next layer's gain. -/
def G (x0 : FVec Ideal S8192x2048 .f32) (x1 : FVec Ideal S2x2x4096x256 .f32) (x2 : FVec Ideal S2x2048x2048 .f32)
    (x3 : FVec Ideal S2x256x2048 .f32) (x4 : FVec Ideal S2x2048 .f32) : FVec Ideal S8192x2048 .bf16 :=
  fun i => U x0 x1 x2 x3 (ix2 (i 0) (i 1)) * Ideal.rsqrt (Ideal.div
      (∑ k : Fin 2048, U x0 x1 x2 x3 (ix2 (i 0) k) * U x0 x1 x2 x3 (ix2 (i 0) k))
      (Ideal.ofBits FTy.f32 1157627904#32) + Ideal.ofBits FTy.f32 897988541#32) * x4 (ix2 1 (i 1))

theorem idx : ∀ t : Fin cfg0.N, win0_0.index t = ![t.val, 0]
    ∧ win0_1.index t = ![0, t.val, 0] ∧ win0_2.index t = ![0, 0, 0] ∧ win0_3.index t = ![0, 0, 0]
    ∧ win0_4.index t = ![0, 0] ∧ win0_5.index t = ![t.val, 0] ∧ win0_6.index t = ![t.val, 0] := by
  exact (by decide +kernel : ∀ t : Fin grid0.N, win0_0.index t = ![t.val, 0]
    ∧ win0_1.index t = ![0, t.val, 0] ∧ win0_2.index t = ![0, 0, 0] ∧ win0_3.index t = ![0, 0, 0]
    ∧ win0_4.index t = ![0, 0] ∧ win0_5.index t = ![t.val, 0] ∧ win0_6.index t = ![t.val, 0])

/-- What the body leaves in the first output's buffer: the block's update. -/
theorem upd (c : Dev nD) (t : Fin cfg0.N) (j : S512x2048.Idx) :
    (outsAt0 m c t).1 j = H (iblk m c 0 t) (iblk m c 1 t) (iblk m c 2 t) (iblk m c 3 t) j := by
  unfold outsAt0
  frame_out
  idx_vars j
  canon_tiles x h
  all_goals
    idx_vars x
    pointwise [k0_pay2, k0_pay3, k0_pay4, k0_pay5, k0_pay6, k0_pay7, k0_pay8, H]
    obtain rfl : j0 = x0 := Fin.ext h0
    simp only [← h1]

/-- What the body leaves in the second output's buffer: the block's update, normalised. -/
theorem nrm (c : Dev nD) (t : Fin cfg0.N) (p : Fin 512) (q : Fin 2048) :
    (outsAt0 m c t).2 (ix2 p q) = H (iblk m c 0 t) (iblk m c 1 t) (iblk m c 2 t) (iblk m c 3 t) (ix2 p q)
      * Ideal.rsqrt (Ideal.div (∑ k : Fin 2048, H (iblk m c 0 t) (iblk m c 1 t) (iblk m c 2 t) (iblk m c 3 t) (ix2 p k)
        * H (iblk m c 0 t) (iblk m c 1 t) (iblk m c 2 t) (iblk m c 3 t) (ix2 p k))
        (Ideal.ofBits FTy.f32 1157627904#32) + Ideal.ofBits FTy.f32 897988541#32) * (iblk m c 4 t) (ix2 0 q) := by
  unfold outsAt0
  frame_out
  generalize hA : (ms0_5 t).view.readCov (Val := Elt Ideal) _ _ = A
  have e : A = H (iblk m c 0 t) (iblk m c 1 t) (iblk m c 2 t) (iblk m c 3 t) := by
    rw [← hA, View.readCov_eq_canon' (Val := Elt Ideal)]
    funext j
    idx_vars j
    simp only [show (Rect.unit (s := S512x2048) ![0, 0] ![512, 2048] inb_S512x2048_S512x2048_0_0).toLoadRect.idx (ix2 j0 j1) = ix2 j0 j1 from by idx_ext]
    canon_tiles x h
    all_goals
      idx_vars x
      pointwise [k0_pay2, k0_pay3, k0_pay4, k0_pay5, k0_pay6, k0_pay7, k0_pay8, H]
      obtain rfl : j0 = x0 := Fin.ext h0
      simp only [← h1]
  rw [e]
  pointwise [k0_pay1, k0_pay8, k0_pay9, k0_pay10, H]

theorem final5 (c : Dev nD) : (dats m 0 c).arrAt 5 (cfgs 0).N =
    U (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5, upd]
  pointwise [H, U]
  blk_point [iblk, V, idx t]

theorem final6 (c : Dev nD) : (dats m 0 c).arrAt 6 (cfgs 0).N =
    G (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  idx_vars y
  refine (nrm m c t y0 y1).trans ?_
  pointwise [H, G, U]
  blk_point [iblk, V, idx t]

theorem ref_eq5 (x0 x1 x2 x3) :
    Cert.Ple0RefIdeal.Read.val_main_v32 (F := Ideal) x0 x1 x2 x3 = U x0 x1 x2 x3 := by
  funext i
  idx_vars i
  pointwise [Cert.Ple0RefIdeal.Read.val_main_v0, Cert.Ple0RefIdeal.Read.val_main_v1, Cert.Ple0RefIdeal.Read.val_main_v2, Cert.Ple0RefIdeal.Read.val_main_v3, Cert.Ple0RefIdeal.Read.val_main_v4, Cert.Ple0RefIdeal.Read.val_main_v5, Cert.Ple0RefIdeal.Read.val_main_cst, Cert.Ple0RefIdeal.Read.val_main_v6, Cert.Ple0RefIdeal.Read.val_main_v7, Cert.Ple0RefIdeal.Read.val_main_cst_0, Cert.Ple0RefIdeal.Read.val_main_v8, Cert.Ple0RefIdeal.Read.val_main_v9, Cert.Ple0RefIdeal.Read.val_main_v10, Cert.Ple0RefIdeal.Read.val_main_v11, Cert.Ple0RefIdeal.Read.val_main_v12, Cert.Ple0RefIdeal.Read.val_main_v13, Cert.Ple0RefIdeal.Read.val_main_v14, Cert.Ple0RefIdeal.Read.val_main_v15, Cert.Ple0RefIdeal.Read.val_main_v16, Cert.Ple0RefIdeal.Read.val_main_v17, Cert.Ple0RefIdeal.Read.val_main_cst_1, Cert.Ple0RefIdeal.Read.val_main_v18, Cert.Ple0RefIdeal.Read.val_main_v19, Cert.Ple0RefIdeal.Read.val_main_cst_2, Cert.Ple0RefIdeal.Read.val_main_v20, Cert.Ple0RefIdeal.Read.val_main_v21, Cert.Ple0RefIdeal.Read.val_main_cst_3, Cert.Ple0RefIdeal.Read.val_main_v22, Cert.Ple0RefIdeal.Read.val_main_v23, Cert.Ple0RefIdeal.Read.val_main_v24, Cert.Ple0RefIdeal.Read.val_main_v25, Cert.Ple0RefIdeal.Read.val_main_v26, Cert.Ple0RefIdeal.Read.val_main_v27, Cert.Ple0RefIdeal.Read.val_main_v28, Cert.Ple0RefIdeal.Read.val_main_v29, Cert.Ple0RefIdeal.Read.val_main_v30, Cert.Ple0RefIdeal.Read.val_main_v31, Cert.Ple0RefIdeal.Read.val_main_v32, Cert.Ple0RefIdeal.Read.val_main_v33, Cert.Ple0RefIdeal.Read.val_main_v34, U, Ideal.logistic]

theorem ref_eq6 (x0 x1 x2 x3 x4) :
    Cert.Ple0RefIdeal.Read.val_main_v34 (F := Ideal) x0 x1 x2 x3 x4 = G x0 x1 x2 x3 x4 := by
  funext i
  idx_vars i
  pointwise [Cert.Ple0RefIdeal.Read.val_main_v0, Cert.Ple0RefIdeal.Read.val_main_v1, Cert.Ple0RefIdeal.Read.val_main_v2, Cert.Ple0RefIdeal.Read.val_main_v3, Cert.Ple0RefIdeal.Read.val_main_v4, Cert.Ple0RefIdeal.Read.val_main_v5, Cert.Ple0RefIdeal.Read.val_main_cst, Cert.Ple0RefIdeal.Read.val_main_v6, Cert.Ple0RefIdeal.Read.val_main_v7, Cert.Ple0RefIdeal.Read.val_main_cst_0, Cert.Ple0RefIdeal.Read.val_main_v8, Cert.Ple0RefIdeal.Read.val_main_v9, Cert.Ple0RefIdeal.Read.val_main_v10, Cert.Ple0RefIdeal.Read.val_main_v11, Cert.Ple0RefIdeal.Read.val_main_v12, Cert.Ple0RefIdeal.Read.val_main_v13, Cert.Ple0RefIdeal.Read.val_main_v14, Cert.Ple0RefIdeal.Read.val_main_v15, Cert.Ple0RefIdeal.Read.val_main_v16, Cert.Ple0RefIdeal.Read.val_main_v17, Cert.Ple0RefIdeal.Read.val_main_cst_1, Cert.Ple0RefIdeal.Read.val_main_v18, Cert.Ple0RefIdeal.Read.val_main_v19, Cert.Ple0RefIdeal.Read.val_main_cst_2, Cert.Ple0RefIdeal.Read.val_main_v20, Cert.Ple0RefIdeal.Read.val_main_v21, Cert.Ple0RefIdeal.Read.val_main_cst_3, Cert.Ple0RefIdeal.Read.val_main_v22, Cert.Ple0RefIdeal.Read.val_main_v23, Cert.Ple0RefIdeal.Read.val_main_v24, Cert.Ple0RefIdeal.Read.val_main_v25, Cert.Ple0RefIdeal.Read.val_main_v26, Cert.Ple0RefIdeal.Read.val_main_v27, Cert.Ple0RefIdeal.Read.val_main_v28, Cert.Ple0RefIdeal.Read.val_main_v29, Cert.Ple0RefIdeal.Read.val_main_v30, Cert.Ple0RefIdeal.Read.val_main_v31, Cert.Ple0RefIdeal.Read.val_main_v32, Cert.Ple0RefIdeal.Read.val_main_v33, Cert.Ple0RefIdeal.Read.val_main_v34, G, U, Ideal.logistic]

theorem algebraic : Cert.algebraic_Ple0Ideal_Ple0RefIdeal := by
  pair_intro
  · run_from run_main m g
  · run_from Cert.Ple0RefIdeal.Value.run m' g'
    · rw [Cert.Ple0RefIdeal.Read.val_main_v32_eq]
      exact (ref_eq5 _ _ _ _).trans (final5 m c).symm
    · rw [Cert.Ple0RefIdeal.Read.val_main_v34_eq]
      obtain ⟨a0, a1, a2, a3, a4⟩ := hagree c
      rw [a0, a1, a2, a3, a4]
      exact (ref_eq6 _ _ _ _ _).trans (final6 m c).symm

theorem ref_frame : Cert.quiescent_Ple0RefIdeal := by
  intro m g _
  exact (θ_run Cert.Ple0RefIdeal.defs _ _).mono
    (fun r h => ⟨fun c => (h c).2.2, sem_eq_zero_of_no_sems (by decide) r.2⟩)
    (Cert.Ple0RefIdeal.Value.run (F := Ideal) m g)

end Cert.Proof.Ple0

end
-- ==== Proof.RopeHost.lean ====
/- The rotary tables' call, over the extended reals: what its host code hands it. The first table of rows holds the two
   frequency rows (written by two scatters into zeros), the second the signs. -/
module

public import proofs.«01_k».proof.Defs
public import proofs.«01_k».proof.Proof.Gen.RopeIdeal.Frame
public import proofs.«01_k».proof.Proof.Gen.RopeRefIdeal.Read
public import Idealize.ShloMosaic.Lib.Pipeline.ValueKit
public import Idealize.ShloMosaic.Lib.Pointwise
public import Idealize.ShloMosaic.Lib.Claim
public import Idealize.ShloMosaic.Lib.Routing.OpsOne

@[expose] public section

set_option maxRecDepth 16384

noncomputable section

namespace Cert.Proof.Rope

open Cert.RopeIdeal Cert.RopeIdeal.Gen Idealize.ShloMosaic Idealize.ShloMosaic.TcCoe Idealize.SL.Sem

variable (m : (ℓ : Loc nD τ sig) → Buf (Elt Ideal) ℓ)

/-! ## The two scatters, read at an element -/

/-- The first scatter writes its update into the row its one index word names, row zero. -/
theorem first_row (x : Vec Ideal S8x128 .f32) (idx : IVec S1 32) (h : ∀ j, idx j = 0#32) (u : Vec Ideal S128 .f32) (r : Fin 8) (q : Fin 128) :
    Host.scatter scatter_S8x128_S1_S128_0_0_0_0 (fun _ b => b) x idx u (ix2 r q) = if r.val = 0 then u (ix1 q) else x (ix2 r q) := by
  have s0 : ∀ k : S128.Idx, scatter_S8x128_S1_S128_0_0_0_0.start k idx 0 = 0 := fun k => by
    unfold ScatterDims.start
    split
    · rw [h]; rfl
    · rfl
  have s1 : ∀ k : S128.Idx, scatter_S8x128_S1_S128_0_0_0_0.start k idx 1 = 0 := fun k => by
    unfold ScatterDims.start
    rfl
  have w0 : ∀ k : S128.Idx, scatter_S8x128_S1_S128_0_0_0_0.window k 0 = 0 := fun k => by
    unfold ScatterDims.window
    rfl
  have w1 : ∀ k : S128.Idx, scatter_S8x128_S1_S128_0_0_0_0.window k 1 = (k 0).val := fun k => by
    unfold ScatterDims.window
    rfl
  have lands : ∀ k : S128.Idx, scatter_S8x128_S1_S128_0_0_0_0.resultIdx? k idx = some (ix2 r q) ↔ r.val = 0 ∧ (k 0).val = q.val := fun k => by
    refine (Routing.resultIdx?_ix2 (R := 8) (C := 128) _ k idx r q).trans ?_
    have a0 := s0 k
    have a1 := s1 k
    have b0 := w0 k
    have b1 := w1 k
    constructor
    · rintro ⟨p0, p1⟩
      constructor <;> omega
    · rintro ⟨p0, p1⟩
      constructor <;> omega
  by_cases hr : r.val = 0
  · rw [if_pos hr]
    refine Routing.scatter_set_hit _ x idx u (ix2 r q) _ (fun k hk => ?_) (ix1 q) ((lands _).2 ⟨hr, rfl⟩)
    refine congrArg u (funext fun d => Fin.ext ?_)
    match d with
    | ⟨0, _⟩ => exact ((lands k).1 hk).2
  · rw [if_neg hr]
    exact Routing.scatter_set_miss _ x idx u (ix2 r q) fun k hk => hr ((lands k).1 hk).1

/-- The second writes its sixty-four elements at row one, column zero. -/
theorem second_row (x : Vec Ideal S8x128 .f32) (idx : IVec S2 32) (h0 : idx (ix1 0) = 1#32) (h1 : idx (ix1 1) = 0#32) (u : Vec Ideal S64 .f32)
    (r : Fin 8) (q : Fin 128) :
    Host.scatter scatter_S8x128_S2_S64_0_0_01_0 (fun _ b => b) x idx u (ix2 r q)
      = if h : r.val = 1 ∧ q.val < 64 then u (ix1 ⟨q.val, h.2⟩) else x (ix2 r q) := by
  have s0 : ∀ k : S64.Idx, scatter_S8x128_S2_S64_0_0_01_0.start k idx 0 = 1 := fun k => by
    refine (Routing.start_pair (R := 8) (C := 128) _ rfl rfl idx k 0).trans (congrArg BitVec.toInt h0)
  have s1 : ∀ k : S64.Idx, scatter_S8x128_S2_S64_0_0_01_0.start k idx 1 = 0 := fun k => by
    refine (Routing.start_pair (R := 8) (C := 128) _ rfl rfl idx k 1).trans (congrArg BitVec.toInt h1)
  have w0 : ∀ k : S64.Idx, scatter_S8x128_S2_S64_0_0_01_0.window k 0 = 0 := fun k => by
    unfold ScatterDims.window
    rfl
  have w1 : ∀ k : S64.Idx, scatter_S8x128_S2_S64_0_0_01_0.window k 1 = (k 0).val := fun k => by
    unfold ScatterDims.window
    rfl
  have lands : ∀ k : S64.Idx, scatter_S8x128_S2_S64_0_0_01_0.resultIdx? k idx = some (ix2 r q) ↔ r.val = 1 ∧ (k 0).val = q.val := fun k => by
    refine (Routing.resultIdx?_ix2 (R := 8) (C := 128) _ k idx r q).trans ?_
    have a0 := s0 k
    have a1 := s1 k
    have b0 := w0 k
    have b1 := w1 k
    constructor
    · rintro ⟨p0, p1⟩
      constructor <;> omega
    · rintro ⟨p0, p1⟩
      constructor <;> omega
  by_cases hr : r.val = 1 ∧ q.val < 64
  · rw [dif_pos hr]
    refine Routing.scatter_set_hit _ x idx u (ix2 r q) _ (fun k hk => ?_) (ix1 ⟨q.val, hr.2⟩) ((lands _).2 ⟨hr.1, rfl⟩)
    refine congrArg u (funext fun d => Fin.ext ?_)
    match d with
    | ⟨0, _⟩ => exact ((lands k).1 hk).2
  · rw [dif_neg hr]
    refine Routing.scatter_set_miss _ x idx u (ix2 r q) fun k hk => hr ⟨((lands k).1 hk).1, ?_⟩
    have e := ((lands k).1 hk).2
    have b : (k 0).val < 64 := (k 0).isLt
    omega

/-! ## The frequencies -/

/-- Powers of ten thousand, sixty-four of them and thirty-two. -/
def F1 : Vec Ideal S64 .f32 := Cert.RopeRefIdeal.Read.val_main_v7 (F := Ideal)
def F2 : Vec Ideal S32 .f32 := Cert.RopeRefIdeal.Read.val_main_v18 (F := Ideal)

/-- The first row of frequencies: the sixty-four, twice. -/
def A1 (q : Fin 128) : EReal := F1 (ix1 ⟨q.val % 64, Nat.mod_lt _ (by decide)⟩)
/-- The second: the thirty-two twice, then zeros. -/
def A2 (q : Fin 128) : EReal := if q.val < 64 then F2 (ix1 ⟨q.val % 32, Nat.mod_lt _ (by decide)⟩) else 0

theorem twice64 (u : Vec Ideal S64 .f32) (q : Fin 128) :
    (concatenate S128 0 [⟨S64, u⟩, ⟨S64, u⟩] concatenates_S64_S64_S128_d0 : Vec Ideal S128 .f32) (ix1 q) = u (ix1 ⟨q.val % 64, Nat.mod_lt _ (by decide)⟩) := by
  pointwise []
  split
  · exact congrArg (fun z => u (ix1 z)) (Fin.ext (by show q.val = q.val % 64; omega))
  · exact congrArg (fun z => u (ix1 z)) (Fin.ext (by show q.val - 64 = q.val % 64; omega))

theorem twice32 (u : Vec Ideal S32 .f32) (q : Fin 64) :
    (concatenate S64 0 [⟨S32, u⟩, ⟨S32, u⟩] concatenates_S32_S32_S64_d0 : Vec Ideal S64 .f32) (ix1 q) = u (ix1 ⟨q.val % 32, Nat.mod_lt _ (by decide)⟩) := by
  pointwise []
  split
  · exact congrArg (fun z => u (ix1 z)) (Fin.ext (by show q.val = q.val % 32; omega))
  · exact congrArg (fun z => u (ix1 z)) (Fin.ext (by show q.val - 32 = q.val % 32; omega))

theorem freq1 (c : Dev nD) (q : Fin 128) : (V m c main_v21 : Vec Ideal S8x128 .f32) (ix2 0 q) = A1 q := by
  entry_read
  rw [second_row _ _ (by rfl) (by rfl), dif_neg (fun h => absurd h.1 (by decide))]
  refine (first_row _ _ (fun _ => rfl) _ 0 q).trans ?_
  rw [if_pos (by decide), twice64]
  rfl

theorem freq2 (c : Dev nD) (q : Fin 128) : (V m c main_v21 : Vec Ideal S8x128 .f32) (ix2 1 q) = A2 q := by
  entry_read
  rw [second_row _ _ (by rfl) (by rfl)]
  unfold A2
  by_cases h : q.val < 64
  · rw [dif_pos ⟨rfl, h⟩, if_pos h, twice32]
    rfl
  · rw [dif_neg (fun g => h g.2), if_neg h]
    refine (first_row _ _ (fun _ => rfl) _ 1 q).trans ?_
    rw [if_neg (by decide)]
    pointwise []

/-! ## The signs -/

theorem word0 : ∀ q : Fin 128, lit0t q.val = if q.val < 64 then 0xBF800000#32 else 0x3F800000#32 := by decide +kernel
theorem word1 : ∀ q : Fin 128, lit0t (128 + q.val) = if 32 ≤ q.val ∧ q.val < 64 then 0x3F800000#32 else 0#32 := by decide +kernel
theorem word2 : ∀ q : Fin 128, lit0t (256 + q.val) = if q.val < 32 then 0xBF800000#32 else 0#32 := by decide +kernel

theorem one_word : Ideal.ofBits .f32 0x3F800000#32 = 1 := by simp [Ideal.ofBits, Ideal.ieee, -EReal.coe_mul]; norm_num
theorem neg_word : Ideal.ofBits .f32 0xBF800000#32 = -1 := by simp [Ideal.ofBits, Ideal.ieee, -EReal.coe_mul]; norm_num
theorem zero_word : Ideal.ofBits .f32 0#32 = 0 := by simp [Ideal.ofBits, Ideal.ieee]

theorem signs (c : Dev nD) (r : Fin 8) (q : Fin 128) :
    (V m c main_cst : Vec Ideal S8x128 .f32) (ix2 r q) = Ideal.ofBits .f32 (lit0t (128 * r.val + q.val)) := by
  entry_read
  show Ideal.ofBits .f32 (lit0 (S8x128.rowMajor (ix2 r q))) = _
  have e : (S8x128.rowMajor (ix2 r q)).val = 128 * r.val + q.val := by
    rw [Shape.rowMajor_val_two]
    show r.val * 128 + q.val = _
    omega
  exact congrArg (fun n => Ideal.ofBits .f32 (lit0t n)) e

theorem sign0 (c : Dev nD) (q : Fin 128) : (V m c main_cst : Vec Ideal S8x128 .f32) (ix2 0 q) = if q.val < 64 then -1 else (1 : EReal) := by
  rw [signs]
  refine (congrArg (fun n => Ideal.ofBits .f32 (lit0t n)) (show 128 * (0 : Fin 8).val + q.val = q.val by simp)).trans ?_
  show Ideal.ofBits .f32 (lit0t q.val) = _
  rw [word0, apply_ite (Ideal.ofBits .f32), one_word, neg_word]

theorem sign1 (c : Dev nD) (q : Fin 128) : (V m c main_cst : Vec Ideal S8x128 .f32) (ix2 1 q) = if 32 ≤ q.val ∧ q.val < 64 then 1 else (0 : EReal) := by
  rw [signs]
  show Ideal.ofBits .f32 (lit0t (128 + q.val)) = _
  rw [word1, apply_ite (Ideal.ofBits .f32), one_word, zero_word]

theorem sign2 (c : Dev nD) (q : Fin 128) : (V m c main_cst : Vec Ideal S8x128 .f32) (ix2 2 q) = if q.val < 32 then -1 else (0 : EReal) := by
  rw [signs]
  show Ideal.ofBits .f32 (lit0t (256 + q.val)) = _
  rw [word2, apply_ite (Ideal.ofBits .f32), neg_word, zero_word]

end Cert.Proof.Rope

end
-- ==== Proof.RopeValue.lean ====
/- The rotary tables' call, over the extended reals: its five results are the reference's. -/
module

public import proofs.«01_k».proof.Proof.RopeHost
public import Idealize.ShloMosaic.Lib.Quiescent

@[expose] public section

set_option maxRecDepth 16384

noncomputable section

namespace Cert.Proof.Rope

open Cert.RopeIdeal Cert.RopeIdeal.Gen Idealize.ShloMosaic Idealize.ShloMosaic.TcCoe Idealize.SL.Sem

variable (m : (ℓ : Loc nD τ sig) → Buf (Elt Ideal) ℓ)

/-- Row `r`'s position, as a number. -/
def pos (x : Vec Ideal S2x4096 .i32) (r : Fin 8192) : EReal :=
  FloatOps.sitofp (F := Ideal) .f32 (x (ix2 ⟨r.val / 4096, by omega⟩ ⟨r.val % 4096, Nat.mod_lt _ (by decide)⟩))

/-- The three rows of signs. -/
def T0 (q : Fin 128) : EReal := if q.val < 64 then -1 else 1
def T1 (q : Fin 128) : EReal := if 32 ≤ q.val ∧ q.val < 64 then 1 else 0
def T2 (q : Fin 128) : EReal := if q.val < 32 then -1 else 0

theorem T0_low (q : Fin 128) (h : q.val < 64) : T0 q = -1 := if_pos h
theorem T0_high (q : Fin 128) (h : ¬ q.val < 64) : T0 q = 1 := if_neg h
theorem T1_in (q : Fin 128) (h : 32 ≤ q.val ∧ q.val < 64) : T1 q = 1 := if_pos h
theorem T1_out (q : Fin 128) (h : ¬ (32 ≤ q.val ∧ q.val < 64)) : T1 q = 0 := if_neg h
theorem T2_low (q : Fin 128) (h : q.val < 32) : T2 q = -1 := if_pos h
theorem T2_high (q : Fin 128) (h : ¬ q.val < 32) : T2 q = 0 := if_neg h

/-- The five tables. -/
def C3 (x : Vec Ideal S2x4096 .i32) : FVec Ideal S8192x128 .f32 := fun i => Ideal.cos (pos x (i 0) * A1 (i 1))
def C4 (x : Vec Ideal S2x4096 .i32) : FVec Ideal S8192x128 .f32 := fun i =>
  Ideal.sin (pos x (i 0) * A1 (i 1)) * T0 (i 1)
def C5 (x : Vec Ideal S2x4096 .i32) : FVec Ideal S8192x128 .f32 := fun i => Ideal.cos (pos x (i 0) * A2 (i 1))
def C6 (x : Vec Ideal S2x4096 .i32) : FVec Ideal S8192x128 .f32 := fun i =>
  Ideal.sin (pos x (i 0) * A2 (i 1)) * T1 (i 1)
def C7 (x : Vec Ideal S2x4096 .i32) : FVec Ideal S8192x128 .f32 := fun i =>
  Ideal.sin (pos x (i 0) * A2 (i 1)) * T2 (i 1)

/-! ## The blocks -/

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] := by
  exact (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0])

/-- Windows 1 and 2 are whole. -/
theorem whole1 (c : Dev nD) (t : Fin cfg0.N) : (iblk m c 1 t : Vec Ideal S8x128 .f32) = (V m c main_v21 : Vec Ideal S8x128 .f32) := by
  funext y
  refine congrArg (V m c main_v21 : Vec Ideal S8x128 .f32) (funext fun a => Fin.ext ?_)
  refine (Pipeline.Window.rect_emb_val (cfg0.win 1) t y a).trans ?_
  have e : (cfg0.win 1).index t a = 0 := by
    refine (congrFun (idx t).2.1 a).trans ?_
    match a with
    | ⟨0, _⟩ => rfl
    | ⟨1, _⟩ => rfl
  rw [e, Nat.zero_mul, Nat.zero_add]

theorem whole2 (c : Dev nD) (t : Fin cfg0.N) : (iblk m c 2 t : Vec Ideal S8x128 .f32) = (V m c main_cst : Vec Ideal S8x128 .f32) := by
  funext y
  refine congrArg (V m c main_cst : Vec Ideal S8x128 .f32) (funext fun a => Fin.ext ?_)
  refine (Pipeline.Window.rect_emb_val (cfg0.win 2) t y a).trans ?_
  have e : (cfg0.win 2).index t a = 0 := by
    refine (congrFun (idx t).2.2.1 a).trans ?_
    match a with
    | ⟨0, _⟩ => rfl
    | ⟨1, _⟩ => rfl
  rw [e, Nat.zero_mul, Nat.zero_add]

theorem column (x : Vec Ideal S2x4096 .i32) (r : Fin 8192) :
    FloatOps.sitofp (F := Ideal) .f32 ((shapeCast S8192x1 x shapeCasts_S2x4096_S8192x1 : Vec Ideal S8192x1 .i32) (ix2 r 0)) = pos x r := by
  unfold pos
  pointwise []

/-- A point's positions. -/
theorem positions (c : Dev nD) (t : Fin cfg0.N) (p : Fin 1024) (r : Fin 8192) (hr : r.val = t.val * 1024 + p.val) :
    FloatOps.sitofp (F := Ideal) .f32 ((iblk m c 0 t : Vec Ideal S1024x1 .i32) (ix2 p 0)) = pos (m (c.tc.loc main_arg0)) r := by
  have e : (iblk m c 0 t : Vec Ideal S1024x1 .i32) (ix2 p 0) = (V m c main_v0 : Vec Ideal S8192x1 .i32) (ix2 r 0) := by
    refine congrArg (V m c main_v0 : Vec Ideal S8192x1 .i32) (funext fun a => Fin.ext ?_)
    refine (Pipeline.Window.rect_emb_val (cfg0.win 0) t (ix2 p 0) a).trans ?_
    have e : (cfg0.win 0).index t a = ![t.val, 0] a := congrFun (idx t).1 a
    rw [e]
    match a with
    | ⟨0, _⟩ => exact hr.symm
    | ⟨1, _⟩ => rfl
  rw [e]
  entry_read
  exact column _ r

/-! ## What a point leaves in each result's buffer -/

variable (x0 : Vec Ideal S1024x1 .i32) (x1 x2 : Vec Ideal S8x128 .f32)

theorem out3 (p : Fin 1024) (q : Fin 128) : out0_3 x0 x1 x2 (ix2 p q)
    = Ideal.cos (FloatOps.sitofp (F := Ideal) .f32 (x0 (ix2 p 0)) * x1 (ix2 0 q)) := by
  frame_out
  pointwise [k0_pay1, k0_pay2, k0_pay3, k0_pay4, k0_pay5, k0_pay6, k0_pay7, k0_pay8, k0_pay9]

theorem out4 (p : Fin 1024) (q : Fin 128) : out0_4 x0 x1 x2 (ix2 p q)
    = Ideal.sin (FloatOps.sitofp (F := Ideal) .f32 (x0 (ix2 p 0)) * x1 (ix2 0 q)) * x2 (ix2 0 q) := by
  frame_out
  pointwise [k0_pay1, k0_pay2, k0_pay3, k0_pay4, k0_pay5, k0_pay6, k0_pay7, k0_pay8, k0_pay9]

theorem out5 (p : Fin 1024) (q : Fin 128) : out0_5 x0 x1 x2 (ix2 p q)
    = Ideal.cos (FloatOps.sitofp (F := Ideal) .f32 (x0 (ix2 p 0)) * x1 (ix2 1 q)) := by
  frame_out
  pointwise [k0_pay1, k0_pay2, k0_pay3, k0_pay4, k0_pay5, k0_pay6, k0_pay7, k0_pay8, k0_pay9]

theorem out6 (p : Fin 1024) (q : Fin 128) : out0_6 x0 x1 x2 (ix2 p q)
    = Ideal.sin (FloatOps.sitofp (F := Ideal) .f32 (x0 (ix2 p 0)) * x1 (ix2 1 q)) * x2 (ix2 1 q) := by
  frame_out
  pointwise [k0_pay1, k0_pay2, k0_pay3, k0_pay4, k0_pay5, k0_pay6, k0_pay7, k0_pay8, k0_pay9]

theorem out7 (p : Fin 1024) (q : Fin 128) : out0_7 x0 x1 x2 (ix2 p q)
    = Ideal.sin (FloatOps.sitofp (F := Ideal) .f32 (x0 (ix2 p 0)) * x1 (ix2 1 q)) * x2 (ix2 2 q) := by
  frame_out
  pointwise [k0_pay1, k0_pay2, k0_pay3, k0_pay4, k0_pay5, k0_pay6, k0_pay7, k0_pay8, k0_pay9]

/-! ## The results -/

theorem final3 (c : Dev nD) : (dats m 0 c).arrAt 3 (cfgs 0).N = C3 (m (c.tc.loc main_arg0)) := by
  refine (dats m 0 c).arrAt_eq_of_covers 3 _ (by decide +kernel) fun t hf y => ?_
  blk_simp
  rw [after0_3]
  idx_vars y
  have ht : t.val < 8 := t.isLt
  refine (out3 _ _ _ y0 y1).trans ?_
  rw [positions m c t y0 ⟨t.val * 1024 + y0.val, by omega⟩ rfl, whole1, freq1]
  refine congrArg (C3 (m (c.tc.loc main_arg0))) (a₁ := ix2 ⟨t.val * 1024 + y0.val, by omega⟩ y1) (funext fun a => Fin.ext ?_)
  refine Eq.trans ?_ (Pipeline.Window.rect_emb_val (cfg0.win 3) t (ix2 y0 y1) a).symm
  have e : (cfg0.win 3).index t a = ![t.val, 0] a := congrFun (idx t).2.2.2.1 a
  rw [e]
  match a with
  | ⟨0, _⟩ => rfl
  | ⟨1, _⟩ => show y1.val = 0 * 128 + y1.val; omega

theorem final4 (c : Dev nD) : (dats m 0 c).arrAt 4 (cfgs 0).N = C4 (m (c.tc.loc main_arg0)) := by
  refine (dats m 0 c).arrAt_eq_of_covers 4 _ (by decide +kernel) fun t hf y => ?_
  blk_simp
  rw [after0_4]
  idx_vars y
  have ht : t.val < 8 := t.isLt
  refine (out4 _ _ _ y0 y1).trans ?_
  rw [positions m c t y0 ⟨t.val * 1024 + y0.val, by omega⟩ rfl, whole1, whole2, freq1, sign0]
  refine congrArg (C4 (m (c.tc.loc main_arg0))) (a₁ := ix2 ⟨t.val * 1024 + y0.val, by omega⟩ y1) (funext fun a => Fin.ext ?_)
  refine Eq.trans ?_ (Pipeline.Window.rect_emb_val (cfg0.win 4) t (ix2 y0 y1) a).symm
  have e : (cfg0.win 4).index t a = ![t.val, 0] a := congrFun (idx t).2.2.2.2.1 a
  rw [e]
  match a with
  | ⟨0, _⟩ => rfl
  | ⟨1, _⟩ => show y1.val = 0 * 128 + y1.val; omega

theorem final5 (c : Dev nD) : (dats m 0 c).arrAt 5 (cfgs 0).N = C5 (m (c.tc.loc main_arg0)) := by
  refine (dats m 0 c).arrAt_eq_of_covers 5 _ (by decide +kernel) fun t hf y => ?_
  blk_simp
  rw [after0_5]
  idx_vars y
  have ht : t.val < 8 := t.isLt
  refine (out5 _ _ _ y0 y1).trans ?_
  rw [positions m c t y0 ⟨t.val * 1024 + y0.val, by omega⟩ rfl, whole1, freq2]
  refine congrArg (C5 (m (c.tc.loc main_arg0))) (a₁ := ix2 ⟨t.val * 1024 + y0.val, by omega⟩ y1) (funext fun a => Fin.ext ?_)
  refine Eq.trans ?_ (Pipeline.Window.rect_emb_val (cfg0.win 5) t (ix2 y0 y1) a).symm
  have e : (cfg0.win 5).index t a = ![t.val, 0] a := congrFun (idx t).2.2.2.2.2.1 a
  rw [e]
  match a with
  | ⟨0, _⟩ => rfl
  | ⟨1, _⟩ => show y1.val = 0 * 128 + y1.val; omega

theorem final6 (c : Dev nD) : (dats m 0 c).arrAt 6 (cfgs 0).N = C6 (m (c.tc.loc main_arg0)) := by
  refine (dats m 0 c).arrAt_eq_of_covers 6 _ (by decide +kernel) fun t hf y => ?_
  blk_simp
  rw [after0_6]
  idx_vars y
  have ht : t.val < 8 := t.isLt
  refine (out6 _ _ _ y0 y1).trans ?_
  rw [positions m c t y0 ⟨t.val * 1024 + y0.val, by omega⟩ rfl, whole1, whole2, freq2, sign1]
  refine congrArg (C6 (m (c.tc.loc main_arg0))) (a₁ := ix2 ⟨t.val * 1024 + y0.val, by omega⟩ y1) (funext fun a => Fin.ext ?_)
  refine Eq.trans ?_ (Pipeline.Window.rect_emb_val (cfg0.win 6) t (ix2 y0 y1) a).symm
  have e : (cfg0.win 6).index t a = ![t.val, 0] a := congrFun (idx t).2.2.2.2.2.2.1 a
  rw [e]
  match a with
  | ⟨0, _⟩ => rfl
  | ⟨1, _⟩ => show y1.val = 0 * 128 + y1.val; omega

theorem final7 (c : Dev nD) : (dats m 0 c).arrAt 7 (cfgs 0).N = C7 (m (c.tc.loc main_arg0)) := by
  refine (dats m 0 c).arrAt_eq_of_covers 7 _ (by decide +kernel) fun t hf y => ?_
  blk_simp
  rw [after0_7]
  idx_vars y
  have ht : t.val < 8 := t.isLt
  refine (out7 _ _ _ y0 y1).trans ?_
  rw [positions m c t y0 ⟨t.val * 1024 + y0.val, by omega⟩ rfl, whole1, whole2, freq2, sign2]
  refine congrArg (C7 (m (c.tc.loc main_arg0))) (a₁ := ix2 ⟨t.val * 1024 + y0.val, by omega⟩ y1) (funext fun a => Fin.ext ?_)
  refine Eq.trans ?_ (Pipeline.Window.rect_emb_val (cfg0.win 7) t (ix2 y0 y1) a).symm
  have e : (cfg0.win 7).index t a = ![t.val, 0] a := congrFun (idx t).2.2.2.2.2.2.2 a
  rw [e]
  match a with
  | ⟨0, _⟩ => rfl
  | ⟨1, _⟩ => show y1.val = 0 * 128 + y1.val; omega

/-! ## The reference's tables -/

theorem angle1 (x : Vec Ideal S2x4096 .i32) (r : Fin 8192) (q : Fin 64) :
    Cert.RopeRefIdeal.Read.val_main_v12 (F := Ideal) x (ix2 r q) = pos x r * F1 (ix1 q) := by
  unfold F1 pos
  pointwise [Cert.RopeRefIdeal.Read.val_main_v0, Cert.RopeRefIdeal.Read.val_main_v1, Cert.RopeRefIdeal.Read.val_main_v2, Cert.RopeRefIdeal.Read.val_main_v3, Cert.RopeRefIdeal.Read.val_main_v4, Cert.RopeRefIdeal.Read.val_main_v5, Cert.RopeRefIdeal.Read.val_main_v6, Cert.RopeRefIdeal.Read.val_main_v7, Cert.RopeRefIdeal.Read.val_main_v8, Cert.RopeRefIdeal.Read.val_main_v9, Cert.RopeRefIdeal.Read.val_main_v10, Cert.RopeRefIdeal.Read.val_main_v11, Cert.RopeRefIdeal.Read.val_main_v12, Cert.RopeRefIdeal.Read.val_main_v13, Cert.RopeRefIdeal.Read.val_main_v14, Cert.RopeRefIdeal.Read.val_main_v15, Cert.RopeRefIdeal.Read.val_main_v16, Cert.RopeRefIdeal.Read.val_main_v17, Cert.RopeRefIdeal.Read.val_main_v18, Cert.RopeRefIdeal.Read.val_main_v19, Cert.RopeRefIdeal.Read.val_main_v20, Cert.RopeRefIdeal.Read.val_main_v21, Cert.RopeRefIdeal.Read.val_main_v22, Cert.RopeRefIdeal.Read.val_main_v23, Cert.RopeRefIdeal.Read.val_main_v24, Cert.RopeRefIdeal.Read.val_main_v25, Cert.RopeRefIdeal.Read.val_main_v26, Cert.RopeRefIdeal.Read.val_main_v27, Cert.RopeRefIdeal.Read.val_main_v28, Cert.RopeRefIdeal.Read.val_main_v29, Cert.RopeRefIdeal.Read.val_main_v30, Cert.RopeRefIdeal.Read.val_main_v31, Cert.RopeRefIdeal.Read.val_main_v32, Cert.RopeRefIdeal.Read.val_main_v33, Cert.RopeRefIdeal.Read.val_main_v34, Cert.RopeRefIdeal.Read.val_main_v35, Cert.RopeRefIdeal.Read.val_main_v36, Cert.RopeRefIdeal.Read.val_main_v37, Cert.RopeRefIdeal.Read.val_main_v38, Cert.RopeRefIdeal.Read.val_main_v39, Cert.RopeRefIdeal.Read.val_main_v40, Cert.RopeRefIdeal.Read.val_main_cst, Cert.RopeRefIdeal.Read.val_main_cst_0, Cert.RopeRefIdeal.Read.val_main_cst_1, Cert.RopeRefIdeal.Read.val_main_cst_2, Cert.RopeRefIdeal.Read.val_main_cst_3, Cert.RopeRefIdeal.Read.val_main_cst_4]

theorem angle2 (x : Vec Ideal S2x4096 .i32) (r : Fin 8192) (q : Fin 32) :
    Cert.RopeRefIdeal.Read.val_main_v23 (F := Ideal) x (ix2 r q) = pos x r * F2 (ix1 q) := by
  unfold F2 pos
  pointwise [Cert.RopeRefIdeal.Read.val_main_v0, Cert.RopeRefIdeal.Read.val_main_v1, Cert.RopeRefIdeal.Read.val_main_v2, Cert.RopeRefIdeal.Read.val_main_v3, Cert.RopeRefIdeal.Read.val_main_v4, Cert.RopeRefIdeal.Read.val_main_v5, Cert.RopeRefIdeal.Read.val_main_v6, Cert.RopeRefIdeal.Read.val_main_v7, Cert.RopeRefIdeal.Read.val_main_v8, Cert.RopeRefIdeal.Read.val_main_v9, Cert.RopeRefIdeal.Read.val_main_v10, Cert.RopeRefIdeal.Read.val_main_v11, Cert.RopeRefIdeal.Read.val_main_v12, Cert.RopeRefIdeal.Read.val_main_v13, Cert.RopeRefIdeal.Read.val_main_v14, Cert.RopeRefIdeal.Read.val_main_v15, Cert.RopeRefIdeal.Read.val_main_v16, Cert.RopeRefIdeal.Read.val_main_v17, Cert.RopeRefIdeal.Read.val_main_v18, Cert.RopeRefIdeal.Read.val_main_v19, Cert.RopeRefIdeal.Read.val_main_v20, Cert.RopeRefIdeal.Read.val_main_v21, Cert.RopeRefIdeal.Read.val_main_v22, Cert.RopeRefIdeal.Read.val_main_v23, Cert.RopeRefIdeal.Read.val_main_v24, Cert.RopeRefIdeal.Read.val_main_v25, Cert.RopeRefIdeal.Read.val_main_v26, Cert.RopeRefIdeal.Read.val_main_v27, Cert.RopeRefIdeal.Read.val_main_v28, Cert.RopeRefIdeal.Read.val_main_v29, Cert.RopeRefIdeal.Read.val_main_v30, Cert.RopeRefIdeal.Read.val_main_v31, Cert.RopeRefIdeal.Read.val_main_v32, Cert.RopeRefIdeal.Read.val_main_v33, Cert.RopeRefIdeal.Read.val_main_v34, Cert.RopeRefIdeal.Read.val_main_v35, Cert.RopeRefIdeal.Read.val_main_v36, Cert.RopeRefIdeal.Read.val_main_v37, Cert.RopeRefIdeal.Read.val_main_v38, Cert.RopeRefIdeal.Read.val_main_v39, Cert.RopeRefIdeal.Read.val_main_v40, Cert.RopeRefIdeal.Read.val_main_cst, Cert.RopeRefIdeal.Read.val_main_cst_0, Cert.RopeRefIdeal.Read.val_main_cst_1, Cert.RopeRefIdeal.Read.val_main_cst_2, Cert.RopeRefIdeal.Read.val_main_cst_3, Cert.RopeRefIdeal.Read.val_main_cst_4]

theorem A1_low (q : Fin 128) (h : q.val < 64) : A1 q = F1 (ix1 ⟨q.val, h⟩) :=
  congrArg (fun z => F1 (ix1 z)) (Fin.ext (by show q.val % 64 = q.val; omega))
theorem A1_high (q : Fin 128) (h : ¬ q.val < 64) : A1 q = F1 (ix1 ⟨q.val - 64, by omega⟩) :=
  congrArg (fun z => F1 (ix1 z)) (Fin.ext (by show q.val % 64 = q.val - 64; omega))
theorem A2_low (q : Fin 128) (h : q.val < 32) : A2 q = F2 (ix1 ⟨q.val, h⟩) := by
  unfold A2
  rw [if_pos (by omega)]
  exact congrArg (fun z => F2 (ix1 z)) (Fin.ext (by show q.val % 32 = q.val; omega))
theorem A2_mid (q : Fin 128) (h : ¬ q.val < 32) (h' : q.val - 32 < 32) : A2 q = F2 (ix1 ⟨q.val - 32, h'⟩) := by
  unfold A2
  rw [if_pos (by omega)]
  exact congrArg (fun z => F2 (ix1 z)) (Fin.ext (by show q.val % 32 = q.val - 32; omega))
theorem A2_high (q : Fin 128) (h : ¬ q.val < 64) : A2 q = 0 := if_neg h

theorem cos_zero : Ideal.cos 0 = 1 := by
  show ((Real.cos 0 : ℝ) : EReal) = 1
  rw [Real.cos_zero]
  rfl

theorem entry3 (x : Vec Ideal S2x4096 .i32) (r : Fin 8192) (q : Fin 128) :
    Cert.RopeRefIdeal.Read.val_main_v28 (F := Ideal) x (ix2 r q) = Ideal.cos (pos x r * A1 q) := by
  pointwise [Cert.RopeRefIdeal.Read.val_main_v28, Cert.RopeRefIdeal.Read.val_main_v26, Cert.RopeRefIdeal.Read.val_main_v27, angle1]
  split
  · rename_i h
    rw [A1_low q h]
  · rename_i h
    rw [A1_high q h]

theorem ref3 (x : Vec Ideal S2x4096 .i32) : Cert.RopeRefIdeal.Read.val_main_v28 (F := Ideal) x = C3 x := by
  funext i
  idx_vars i
  exact entry3 x i0 i1

theorem entry4 (x : Vec Ideal S2x4096 .i32) (r : Fin 8192) (q : Fin 128) :
    Cert.RopeRefIdeal.Read.val_main_v32 (F := Ideal) x (ix2 r q) = Ideal.sin (pos x r * A1 q) * T0 q := by
  pointwise [Cert.RopeRefIdeal.Read.val_main_v32, Cert.RopeRefIdeal.Read.val_main_v29, Cert.RopeRefIdeal.Read.val_main_v30, Cert.RopeRefIdeal.Read.val_main_v31, angle1]
  split
  · rename_i h
    rw [A1_low q h, T0_low q h, mul_neg, mul_one]
  · rename_i h
    rw [A1_high q h, T0_high q h, mul_one]

theorem ref4 (x : Vec Ideal S2x4096 .i32) : Cert.RopeRefIdeal.Read.val_main_v32 (F := Ideal) x = C4 x := by
  funext i
  idx_vars i
  exact entry4 x i0 i1

theorem entry5 (x : Vec Ideal S2x4096 .i32) (r : Fin 8192) (q : Fin 128) :
    Cert.RopeRefIdeal.Read.val_main_v35 (F := Ideal) x (ix2 r q) = Ideal.cos (pos x r * A2 q) := by
  pointwise [Cert.RopeRefIdeal.Read.val_main_v35, Cert.RopeRefIdeal.Read.val_main_v33, Cert.RopeRefIdeal.Read.val_main_v34, Cert.RopeRefIdeal.Read.val_main_v24, Cert.RopeRefIdeal.Read.val_main_cst_3, angle2]
  by_cases h : q.val < 32
  · rw [dif_pos h, A2_low q h]
  · rw [dif_neg h]
    by_cases h' : q.val - 32 < 32
    · rw [dif_pos h', A2_mid q h h']
    · rw [dif_neg h', A2_high q (by omega), mul_zero, cos_zero]

theorem ref5 (x : Vec Ideal S2x4096 .i32) : Cert.RopeRefIdeal.Read.val_main_v35 (F := Ideal) x = C5 x := by
  funext i
  idx_vars i
  exact entry5 x i0 i1

theorem entry6 (x : Vec Ideal S2x4096 .i32) (r : Fin 8192) (q : Fin 128) :
    Cert.RopeRefIdeal.Read.val_main_v37 (F := Ideal) x (ix2 r q) = Ideal.sin (pos x r * A2 q) * T1 q := by
  pointwise [Cert.RopeRefIdeal.Read.val_main_v37, Cert.RopeRefIdeal.Read.val_main_v36, Cert.RopeRefIdeal.Read.val_main_v25, Cert.RopeRefIdeal.Read.val_main_cst_4, angle2]
  by_cases h : q.val < 32
  · rw [T1_out q (by omega), mul_zero, dif_pos h]
  · rw [dif_neg h]
    by_cases h' : q.val - 32 < 32
    · rw [dif_pos h', A2_mid q h h', T1_in q (by omega), mul_one]
    · rw [dif_neg h', T1_out q (by omega), mul_zero]
      split <;> rfl

theorem ref6 (x : Vec Ideal S2x4096 .i32) : Cert.RopeRefIdeal.Read.val_main_v37 (F := Ideal) x = C6 x := by
  funext i
  idx_vars i
  exact entry6 x i0 i1

theorem entry7 (x : Vec Ideal S2x4096 .i32) (r : Fin 8192) (q : Fin 128) :
    Cert.RopeRefIdeal.Read.val_main_v40 (F := Ideal) x (ix2 r q) = Ideal.sin (pos x r * A2 q) * T2 q := by
  pointwise [Cert.RopeRefIdeal.Read.val_main_v40, Cert.RopeRefIdeal.Read.val_main_v38, Cert.RopeRefIdeal.Read.val_main_v39, Cert.RopeRefIdeal.Read.val_main_v25, Cert.RopeRefIdeal.Read.val_main_cst_4, angle2]
  by_cases h : q.val < 32
  · rw [dif_pos h, A2_low q h, T2_low q h, mul_neg, mul_one]
  · rw [dif_neg h, T2_high q h, mul_zero]
    split
    · rfl
    · split <;> rfl

theorem ref7 (x : Vec Ideal S2x4096 .i32) : Cert.RopeRefIdeal.Read.val_main_v40 (F := Ideal) x = C7 x := by
  funext i
  idx_vars i
  exact entry7 x i0 i1

set_option maxHeartbeats 1000000 in
/-- The five results of the call are the reference's. -/
theorem algebraic : Cert.algebraic_RopeIdeal_RopeRefIdeal := by
  pair_intro
  · run_from run_main m g
  · run_from Cert.RopeRefIdeal.Value.run m' g'
    · obtain a := hagree c
      refine (Cert.RopeRefIdeal.Read.val_main_v28_eq _).trans ?_
      rw [a]
      exact (ref3 _).trans (final3 m c).symm
    · obtain a := hagree c
      refine (Cert.RopeRefIdeal.Read.val_main_v32_eq _).trans ?_
      rw [a]
      exact (ref4 _).trans (final4 m c).symm
    · obtain a := hagree c
      refine (Cert.RopeRefIdeal.Read.val_main_v35_eq _).trans ?_
      rw [a]
      exact (ref5 _).trans (final5 m c).symm
    · obtain a := hagree c
      refine (Cert.RopeRefIdeal.Read.val_main_v37_eq _).trans ?_
      rw [a]
      exact (ref6 _).trans (final6 m c).symm
    · obtain a := hagree c
      refine (Cert.RopeRefIdeal.Read.val_main_v40_eq _).trans ?_
      rw [a]
      exact (ref7 _).trans (final7 m c).symm

theorem ref_frame : Cert.quiescent_RopeRefIdeal := by
  intro m g _
  exact (θ_run Cert.RopeRefIdeal.defs _ _).mono
    (fun r h => ⟨fun c => (h c).2.2.2.2.2, sem_eq_zero_of_no_sems (by decide) r.2⟩)
    (Cert.RopeRefIdeal.Value.run (F := Ideal) m g)

end Cert.Proof.Rope

end
-- ==== Proof.InProjTIdealSetup.lean ====
/- The input projection, in the ideal reading: when each branch of its body runs, the buffers a grid point is handed, and the frame statement
   read off a run. -/
module

public import proofs.«01_k».proof.Proof.Gen.InProjTIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_InProjTIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin cfg0.N, cond0_0 (grid0.coords t) ↔ t.val % 12 = 0 :=
  (fun t => by
    have ht : t.val < 96 := Nat.lt_of_lt_of_eq t.isLt N_0
    have e0 : (grid0.coords t 0).val = t.val / 12 % 8 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 and i1 ≤ 4 — decided over the grid. -/
theorem hcond0_1 : ∀ t : Fin cfg0.N, cond0_1 (grid0.coords t) ↔ (1 ≤ t.val % 12 ∧ t.val % 12 ≤ 4) :=
  (by decide +kernel : ∀ t : Fin grid0.N, cond0_1 (grid0.coords t) ↔ (1 ≤ t.val % 12 ∧ t.val % 12 ≤ 4))

/-- The condition of the body's `scf.if` 2 (`k0_h3`), from the grid coordinates (the skeleton's scalar
    chain substituted). -/
abbrev cond0_2 (i : grid0.Coords) : Prop := k0_cond3 i = 1#1
/-- It holds at the points ≡ 5 (mod 12) — by arithmetic of the point. -/
theorem hcond0_2 : ∀ t : Fin cfg0.N, cond0_2 (grid0.coords t) ↔ t.val % 12 = 5 :=
  (fun t => by
    have ht : t.val < 96 := Nat.lt_of_lt_of_eq t.isLt N_0
    have e0 : (grid0.coords t 0).val = t.val / 12 % 8 := Pipeline.Grid.coords_val t 0 (by decide) rfl
    have e1 : (grid0.coords t 1).val = t.val / 1 % 12 := Pipeline.Grid.coords_val t 1 (by decide) rfl
    simp only [cond0_2, k0_cond3, e0, e1]
    word_cmp
   : ∀ t : Fin grid0.N, cond0_2 (grid0.coords t) ↔ t.val % 12 = 5)

/-- The condition of the body's `scf.if` 3 (`k0_h4`), from the grid coordinates (the skeleton's scalar
    chain substituted). -/
abbrev cond0_3 (i : grid0.Coords) : Prop := k0_cond4 i = 1#1
/-- It holds at the points ≡ 6 (mod 12) — by arithmetic of the point. -/
theorem hcond0_3 : ∀ t : Fin cfg0.N, cond0_3 (grid0.coords t) ↔ t.val % 12 = 6 :=
  (fun t => by
    have ht : t.val < 96 := Nat.lt_of_lt_of_eq t.isLt N_0
    have e0 : (grid0.coords t 0).val = t.val / 12 % 8 := Pipeline.Grid.coords_val t 0 (by decide) rfl
    have e1 : (grid0.coords t 1).val = t.val / 1 % 12 := Pipeline.Grid.coords_val t 1 (by decide) rfl
    simp only [cond0_3, k0_cond4, e0, e1]
    word_cmp
   : ∀ t : Fin grid0.N, cond0_3 (grid0.coords t) ↔ t.val % 12 = 6)

/-- The condition of the body's `scf.if` 4 (`k0_h5`), from the grid coordinates (the skeleton's scalar
    chain substituted). -/
abbrev cond0_4 (i : grid0.Coords) : Prop := k0_cond5 i = 1#1
/-- It holds at the points whose coordinates have 7 ≤ i1 and i1 ≤ 10 — decided over the grid. -/
theorem hcond0_4 : ∀ t : Fin cfg0.N, cond0_4 (grid0.coords t) ↔ (7 ≤ t.val % 12 ∧ t.val % 12 ≤ 10) :=
  (by decide +kernel : ∀ t : Fin grid0.N, cond0_4 (grid0.coords t) ↔ (7 ≤ t.val % 12 ∧ t.val % 12 ≤ 10))

/-- The condition of the body's `scf.if` 5 (`k0_h6`), from the grid coordinates (the skeleton's scalar
    chain substituted). -/
abbrev cond0_5 (i : grid0.Coords) : Prop := k0_cond6 i = 1#1
/-- It holds at the points ≡ 11 (mod 12) — by arithmetic of the point. -/
theorem hcond0_5 : ∀ t : Fin cfg0.N, cond0_5 (grid0.coords t) ↔ t.val % 12 = 11 :=
  (fun t => by
    have ht : t.val < 96 := Nat.lt_of_lt_of_eq t.isLt N_0
    have e0 : (grid0.coords t 0).val = t.val / 12 % 8 := Pipeline.Grid.coords_val t 0 (by decide) rfl
    have e1 : (grid0.coords t 1).val = t.val / 1 % 12 := Pipeline.Grid.coords_val t 1 (by decide) rfl
    simp only [cond0_5, k0_cond6, e0, e1]
    word_cmp
   : ∀ t : Fin grid0.N, cond0_5 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x4x128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x576x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x4x128x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S16x1024 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S1024x2048 .bf16 := Memref.whole cc0_scratch0
abbrev scM0_1 : Memref sig .tc .vmem S1024x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body holds of its buffers before and after any point: each input at its block, each result and each scratch
    buffer at some contents. -/
def held (c : Dev nD) (arg2 : Memref sig .tc .vmem S1024x2048 .f32) (arg3 : Memref sig .tc .vmem S1x2048 .f32) (arg4 : Memref sig .tc .vmem S1x2048x512 .bf16) (arg5 : Memref sig .tc .vmem S1024x128 .f32) (arg6 : Memref sig .tc .vmem S1024x128 .f32) (arg7 : Memref sig .tc .vmem S1024x128 .f32) (arg8 : Memref sig .tc .vmem S1024x128 .f32) (arg9 : Memref sig .tc .vmem S1024x128 .f32) (arg10 : Memref sig .tc .vmem S1x128 .f32) (arg11 : Memref sig .tc .vmem S1x128 .f32) (arg12 : Memref sig .tc .vmem S8x4x128x128 .bf16) (arg13 : Memref sig .tc .vmem S1024x512 .bf16) (arg14 : Memref sig .tc .vmem S4x576x256 .bf16) (arg15 : Memref sig .tc .vmem S8x4x128x128 .bf16) (arg16 : Memref sig .tc .vmem S1024x128 .bf16) (arg17 : Memref sig .tc .vmem S16x1024 .f32) (arg18 : Memref sig .tc .vmem S1024x2048 .bf16) (arg19 : Memref sig .tc .vmem S1024x512 .f32)
    (x0 : Vec F S1024x2048 .f32) (x1 : Vec F S1x2048 .f32) (x2 : Vec F S1x2048x512 .bf16) (x3 : Vec F S1024x128 .f32) (x4 : Vec F S1024x128 .f32) (x5 : Vec F S1024x128 .f32) (x6 : Vec F S1024x128 .f32) (x7 : Vec F S1024x128 .f32) (x8 : Vec F S1x128 .f32) (x9 : Vec F S1x128 .f32) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare x9
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d))

end Cert.Proof.InProjTIdeal

end
-- ==== Proof.InProjTIdealRunA.lean ====
/- The input projection, in the ideal reading: one run of the body at the first point of a row block, which norms the rows. -/
module

public import proofs.«01_k».proof.Proof.InProjTIdealSetup
public import proofs.«01_k».proof.Proof.Gen.InProjTIdeal.Skeleton

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point of a row block, which norms the rows: it hands its buffers back as it was handed them. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S8x4x128x128 .bf16) (harg12 : arg12.IsWhole) (arg13 : Memref sig .tc .vmem S1024x512 .bf16) (harg13 : arg13.IsWhole) (arg14 : Memref sig .tc .vmem S4x576x256 .bf16) (harg14 : arg14.IsWhole) (arg15 : Memref sig .tc .vmem S8x4x128x128 .bf16) (harg15 : arg15.IsWhole) (arg16 : Memref sig .tc .vmem S1024x128 .bf16) (harg16 : arg16.IsWhole) (arg17 : Memref sig .tc .vmem S16x1024 .f32) (harg17 : arg17.IsWhole) (arg18 : Memref sig .tc .vmem S1024x2048 .bf16) (harg18 : arg18.IsWhole) (arg19 : Memref sig .tc .vmem S1024x512 .f32) (harg19 : arg19.IsWhole)
    (hc0 : cond0_0 i) (hc1 : ¬cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x512 .bf16) (x3 : Vec F S1024x128 .f32) (x4 : Vec F S1024x128 .f32) (x5 : Vec F S1024x128 .f32) (x6 : Vec F S1024x128 .f32) (x7 : Vec F S1024x128 .f32) (x8 : Vec F S1x128 .f32) (x9 : Vec F S1x128 .f32)
    (E : Set ℕ) (K : PUnit → sProp 𝕄) :
    iprop(held c arg2 arg3 arg4 arg5 arg6 arg7 arg8 arg9 arg10 arg11 arg12 arg13 arg14 arg15 arg16 arg17 arg18 arg19 x0 x1 x2 x3 x4 x5 x6 x7 x8 x9 ∗ (held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_dsa_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_dsa_in_proj_eq_skeleton]; unfold cc0_dsa_in_proj_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.InProjTIdeal

end
-- ==== Proof.InProjTIdealRunB.lean ====
/- The input projection, in the ideal reading: one run of the body at a point that stores a block of the queries. -/
module

public import proofs.«01_k».proof.Proof.InProjTIdealSetup
public import proofs.«01_k».proof.Proof.Gen.InProjTIdeal.Skeleton
public import proofs.«01_k».proof.Proof.InProjTIdealRunA

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that stores a block of the queries: it hands its buffers back as it was handed them. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S8x4x128x128 .bf16) (harg12 : arg12.IsWhole) (arg13 : Memref sig .tc .vmem S1024x512 .bf16) (harg13 : arg13.IsWhole) (arg14 : Memref sig .tc .vmem S4x576x256 .bf16) (harg14 : arg14.IsWhole) (arg15 : Memref sig .tc .vmem S8x4x128x128 .bf16) (harg15 : arg15.IsWhole) (arg16 : Memref sig .tc .vmem S1024x128 .bf16) (harg16 : arg16.IsWhole) (arg17 : Memref sig .tc .vmem S16x1024 .f32) (harg17 : arg17.IsWhole) (arg18 : Memref sig .tc .vmem S1024x2048 .bf16) (harg18 : arg18.IsWhole) (arg19 : Memref sig .tc .vmem S1024x512 .f32) (harg19 : arg19.IsWhole)
    (hc0 : ¬cond0_0 i) (hc1 : cond0_1 i) (hc2 : ¬cond0_2 i) (hc3 : ¬cond0_3 i) (hc4 : ¬cond0_4 i) (hc5 : ¬cond0_5 i)
    (x0 : Vec F S1024x2048 .f32) (x1 : Vec F S1x2048 .f32) (x2 : Vec F S1x2048x512 .bf16) (x3 : Vec F S1024x128 .f32) (x4 : Vec F S1024x128 .f32) (x5 : Vec F S1024x128 .f32) (x6 : Vec F S1024x128 .f32) (x7 : Vec F S1024x128 .f32) (x8 : Vec F S1x128 .f32) (x9 : Vec F S1x128 .f32)
    (E : Set ℕ) (K : PUnit → sProp 𝕄) :
    iprop(held c arg2 arg3 arg4 arg5 arg6 arg7 arg8 arg9 arg10 arg11 arg12 arg13 arg14 arg15 arg16 arg17 arg18 arg19 x0 x1 x2 x3 x4 x5 x6 x7 x8 x9 ∗ (held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_dsa_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_dsa_in_proj_eq_skeleton]; unfold cc0_dsa_in_proj_skel
  simp only [k0_part1_eq_skeleton, k0_part2_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.InProjTIdeal

end
-- ==== Proof.InProjTIdealRunC.lean ====
/- The input projection, in the ideal reading: one run of the body at the point that stores the keys. -/
module

public import proofs.«01_k».proof.Proof.InProjTIdealSetup
public import proofs.«01_k».proof.Proof.Gen.InProjTIdeal.Skeleton
public import proofs.«01_k».proof.Proof.InProjTIdealRunB

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the point that stores the keys: it hands its buffers back as it was handed them. -/
theorem runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S8x4x128x128 .bf16) (harg12 : arg12.IsWhole) (arg13 : Memref sig .tc .vmem S1024x512 .bf16) (harg13 : arg13.IsWhole) (arg14 : Memref sig .tc .vmem S4x576x256 .bf16) (harg14 : arg14.IsWhole) (arg15 : Memref sig .tc .vmem S8x4x128x128 .bf16) (harg15 : arg15.IsWhole) (arg16 : Memref sig .tc .vmem S1024x128 .bf16) (harg16 : arg16.IsWhole) (arg17 : Memref sig .tc .vmem S16x1024 .f32) (harg17 : arg17.IsWhole) (arg18 : Memref sig .tc .vmem S1024x2048 .bf16) (harg18 : arg18.IsWhole) (arg19 : Memref sig .tc .vmem S1024x512 .f32) (harg19 : arg19.IsWhole)
    (hc0 : ¬cond0_0 i) (hc1 : ¬cond0_1 i) (hc2 : cond0_2 i) (hc3 : ¬cond0_3 i) (hc4 : ¬cond0_4 i) (hc5 : ¬cond0_5 i)
    (x0 : Vec F S1024x2048 .f32) (x1 : Vec F S1x2048 .f32) (x2 : Vec F S1x2048x512 .bf16) (x3 : Vec F S1024x128 .f32) (x4 : Vec F S1024x128 .f32) (x5 : Vec F S1024x128 .f32) (x6 : Vec F S1024x128 .f32) (x7 : Vec F S1024x128 .f32) (x8 : Vec F S1x128 .f32) (x9 : Vec F S1x128 .f32)
    (E : Set ℕ) (K : PUnit → sProp 𝕄) :
    iprop(held c arg2 arg3 arg4 arg5 arg6 arg7 arg8 arg9 arg10 arg11 arg12 arg13 arg14 arg15 arg16 arg17 arg18 arg19 x0 x1 x2 x3 x4 x5 x6 x7 x8 x9 ∗ (held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_dsa_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_dsa_in_proj_eq_skeleton]; unfold cc0_dsa_in_proj_skel
  simp only [k0_part3_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.InProjTIdeal

end
-- ==== Proof.InProjTIdealRunD.lean ====
/- The input projection, in the ideal reading: one run of the body at the point that stores the transposed values. -/
module

public import proofs.«01_k».proof.Proof.InProjTIdealSetup
public import proofs.«01_k».proof.Proof.Gen.InProjTIdeal.Skeleton
public import proofs.«01_k».proof.Proof.InProjTIdealRunC

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the point that stores the transposed values: it hands its buffers back as it was handed them. -/
theorem runD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S8x4x128x128 .bf16) (harg12 : arg12.IsWhole) (arg13 : Memref sig .tc .vmem S1024x512 .bf16) (harg13 : arg13.IsWhole) (arg14 : Memref sig .tc .vmem S4x576x256 .bf16) (harg14 : arg14.IsWhole) (arg15 : Memref sig .tc .vmem S8x4x128x128 .bf16) (harg15 : arg15.IsWhole) (arg16 : Memref sig .tc .vmem S1024x128 .bf16) (harg16 : arg16.IsWhole) (arg17 : Memref sig .tc .vmem S16x1024 .f32) (harg17 : arg17.IsWhole) (arg18 : Memref sig .tc .vmem S1024x2048 .bf16) (harg18 : arg18.IsWhole) (arg19 : Memref sig .tc .vmem S1024x512 .f32) (harg19 : arg19.IsWhole)
    (hc0 : ¬cond0_0 i) (hc1 : ¬cond0_1 i) (hc2 : ¬cond0_2 i) (hc3 : cond0_3 i) (hc4 : ¬cond0_4 i) (hc5 : ¬cond0_5 i)
    (x0 : Vec F S1024x2048 .f32) (x1 : Vec F S1x2048 .f32) (x2 : Vec F S1x2048x512 .bf16) (x3 : Vec F S1024x128 .f32) (x4 : Vec F S1024x128 .f32) (x5 : Vec F S1024x128 .f32) (x6 : Vec F S1024x128 .f32) (x7 : Vec F S1024x128 .f32) (x8 : Vec F S1x128 .f32) (x9 : Vec F S1x128 .f32)
    (E : Set ℕ) (K : PUnit → sProp 𝕄) :
    iprop(held c arg2 arg3 arg4 arg5 arg6 arg7 arg8 arg9 arg10 arg11 arg12 arg13 arg14 arg15 arg16 arg17 arg18 arg19 x0 x1 x2 x3 x4 x5 x6 x7 x8 x9 ∗ (held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_dsa_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_dsa_in_proj_eq_skeleton]; unfold cc0_dsa_in_proj_skel
  simp only [k0_part4_eq_skeleton, k0_part5_eq_skeleton, k0_part6_eq_skeleton, k0_part7_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.InProjTIdeal

end
-- ==== Proof.InProjTIdealRunE.lean ====
/- The input projection, in the ideal reading: one run of the body at a point that stores a block of the indexer queries. -/
module

public import proofs.«01_k».proof.Proof.InProjTIdealSetup
public import proofs.«01_k».proof.Proof.Gen.InProjTIdeal.Skeleton
public import proofs.«01_k».proof.Proof.InProjTIdealRunD

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that stores a block of the indexer queries: it hands its buffers back as it was handed them. -/
theorem runE (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S8x4x128x128 .bf16) (harg12 : arg12.IsWhole) (arg13 : Memref sig .tc .vmem S1024x512 .bf16) (harg13 : arg13.IsWhole) (arg14 : Memref sig .tc .vmem S4x576x256 .bf16) (harg14 : arg14.IsWhole) (arg15 : Memref sig .tc .vmem S8x4x128x128 .bf16) (harg15 : arg15.IsWhole) (arg16 : Memref sig .tc .vmem S1024x128 .bf16) (harg16 : arg16.IsWhole) (arg17 : Memref sig .tc .vmem S16x1024 .f32) (harg17 : arg17.IsWhole) (arg18 : Memref sig .tc .vmem S1024x2048 .bf16) (harg18 : arg18.IsWhole) (arg19 : Memref sig .tc .vmem S1024x512 .f32) (harg19 : arg19.IsWhole)
    (hc0 : ¬cond0_0 i) (hc1 : ¬cond0_1 i) (hc2 : ¬cond0_2 i) (hc3 : ¬cond0_3 i) (hc4 : cond0_4 i) (hc5 : ¬cond0_5 i)
    (x0 : Vec F S1024x2048 .f32) (x1 : Vec F S1x2048 .f32) (x2 : Vec F S1x2048x512 .bf16) (x3 : Vec F S1024x128 .f32) (x4 : Vec F S1024x128 .f32) (x5 : Vec F S1024x128 .f32) (x6 : Vec F S1024x128 .f32) (x7 : Vec F S1024x128 .f32) (x8 : Vec F S1x128 .f32) (x9 : Vec F S1x128 .f32)
    (E : Set ℕ) (K : PUnit → sProp 𝕄) :
    iprop(held c arg2 arg3 arg4 arg5 arg6 arg7 arg8 arg9 arg10 arg11 arg12 arg13 arg14 arg15 arg16 arg17 arg18 arg19 x0 x1 x2 x3 x4 x5 x6 x7 x8 x9 ∗ (held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_dsa_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_dsa_in_proj_eq_skeleton]; unfold cc0_dsa_in_proj_skel
  simp only [k0_part8_eq_skeleton, k0_part9_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.InProjTIdeal

end
-- ==== Proof.InProjTIdealRunF.lean ====
/- The input projection, in the ideal reading: one run of the body at the last point of a row block, which stores the indexer key and the head weights. -/
module

public import proofs.«01_k».proof.Proof.InProjTIdealSetup
public import proofs.«01_k».proof.Proof.Gen.InProjTIdeal.Skeleton
public import proofs.«01_k».proof.Proof.InProjTIdealRunE

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point of a row block, which stores the indexer key and the head weights: it hands its buffers back as it was handed them. -/
theorem runF (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S8x4x128x128 .bf16) (harg12 : arg12.IsWhole) (arg13 : Memref sig .tc .vmem S1024x512 .bf16) (harg13 : arg13.IsWhole) (arg14 : Memref sig .tc .vmem S4x576x256 .bf16) (harg14 : arg14.IsWhole) (arg15 : Memref sig .tc .vmem S8x4x128x128 .bf16) (harg15 : arg15.IsWhole) (arg16 : Memref sig .tc .vmem S1024x128 .bf16) (harg16 : arg16.IsWhole) (arg17 : Memref sig .tc .vmem S16x1024 .f32) (harg17 : arg17.IsWhole) (arg18 : Memref sig .tc .vmem S1024x2048 .bf16) (harg18 : arg18.IsWhole) (arg19 : Memref sig .tc .vmem S1024x512 .f32) (harg19 : arg19.IsWhole)
    (hc0 : ¬cond0_0 i) (hc1 : ¬cond0_1 i) (hc2 : ¬cond0_2 i) (hc3 : ¬cond0_3 i) (hc4 : ¬cond0_4 i) (hc5 : cond0_5 i)
    (x0 : Vec F S1024x2048 .f32) (x1 : Vec F S1x2048 .f32) (x2 : Vec F S1x2048x512 .bf16) (x3 : Vec F S1024x128 .f32) (x4 : Vec F S1024x128 .f32) (x5 : Vec F S1024x128 .f32) (x6 : Vec F S1024x128 .f32) (x7 : Vec F S1024x128 .f32) (x8 : Vec F S1x128 .f32) (x9 : Vec F S1x128 .f32)
    (E : Set ℕ) (K : PUnit → sProp 𝕄) :
    iprop(held c arg2 arg3 arg4 arg5 arg6 arg7 arg8 arg9 arg10 arg11 arg12 arg13 arg14 arg15 arg16 arg17 arg18 arg19 x0 x1 x2 x3 x4 x5 x6 x7 x8 x9 ∗ (held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_dsa_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_dsa_in_proj_eq_skeleton]; unfold cc0_dsa_in_proj_skel
  simp only [k0_part10_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.InProjTIdeal

end
-- ==== Proof.InProjTIdealFrame.lean ====
/- The input projection, in the ideal reading: its frame. What the results and the scratch buffers hold between points is not followed. -/
module

public import proofs.«01_k».proof.Proof.InProjTIdealRunF
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.InProjTIdeal

open Cert.InProjTIdeal Cert.InProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The windows of the six results: nothing is said of what they are left at. -/
def forgets0 : Fin 16 → Bool := fun w => w.val == 10 || w.val == 11 || w.val == 12 || w.val == 13 || w.val == 14 || w.val == 15

/-- The proof data: arrays as the region finds them, inputs at their blocks, results unnamed, and between points every
    scratch buffer at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- Whatever the point's column, the body hands its buffers back as it was handed them. -/
theorem held_body (c : Dev nD) (t : Fin cfg0.N) (K : PUnit → sProp 𝕄) :
    iprop(held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) scM0_0 scM0_1
        (iblk m c 0 t) (iblk m c 1 t) (iblk m c 2 t) (iblk m c 3 t) (iblk m c 4 t) (iblk m c 5 t) (iblk m c 6 t) (iblk m c 7 t) (iblk m c 8 t) (iblk m c 9 t)
        ∗ (held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) scM0_0 scM0_1
        (iblk m c 0 t) (iblk m c 1 t) (iblk m c 2 t) (iblk m c 3 t) (iblk m c 4 t) (iblk m c 5 t) (iblk m c 6 t) (iblk m c 7 t) (iblk m c 8 t) (iblk m c 9 t) -∗ K ⟨⟩))
      ⊢ wp frame (wpE (defs₀ (F := F)) Variants.none c none) Set.univ (bodyAt0 t) K := by
  have e0 := hcond0_0 t; have e1 := hcond0_1 t; have e2 := hcond0_2 t
  have e3 := hcond0_3 t; have e4 := hcond0_4 t; have e5 := hcond0_5 t
  have hlt : t.val % 12 < 12 := Nat.mod_lt _ (by decide)
  unfold bodyAt0
  rcases (by omega : t.val % 12 = 0 ∨ (1 ≤ t.val % 12 ∧ t.val % 12 ≤ 4) ∨ t.val % 12 = 5 ∨ t.val % 12 = 6
    ∨ (7 ≤ t.val % 12 ∧ t.val % 12 ≤ 10) ∨ t.val % 12 = 11) with h | h | h | h | h | h
  · exact runA c (grid0.coords t) _ _ _ _ _ _ _ _ _ _ _ _ _ _ _ _ _ _ _ _ _ _ _ _ _ _ _ _ _ _ _ _ _ _ _ _
      (e0.mpr h) (fun k => by have := e1.mp k; omega) (fun k => by have := e2.mp k; omega) (fun k => by have := e3.mp k; omega) (fun k => by have := e4.mp k; omega) (fun k => by have := e5.mp k; omega)
      _ _ _ _ _ _ _ _ _ _ Set.univ K
  · exact runB c (grid0.coords t) _ _ _ _ _ _ _ _ _ _ _ _ _ _ _ _ _ _ _ _ _ _ _ _ _ _ _ _ _ _ _ _ _ _ _ _
      (fun k => by have := e0.mp k; omega) (e1.mpr h) (fun k => by have := e2.mp k; omega) (fun k => by have := e3.mp k; omega) (fun k => by have := e4.mp k; omega) (fun k => by have := e5.mp k; omega)
      _ _ _ _ _ _ _ _ _ _ Set.univ K
  · exact runC c (grid0.coords t) _ _ _ _ _ _ _ _ _ _ _ _ _ _ _ _ _ _ _ _ _ _ _ _ _ _ _ _ _ _ _ _ _ _ _ _
      (fun k => by have := e0.mp k; omega) (fun k => by have := e1.mp k; omega) (e2.mpr h) (fun k => by have := e3.mp k; omega) (fun k => by have := e4.mp k; omega) (fun k => by have := e5.mp k; omega)
      _ _ _ _ _ _ _ _ _ _ Set.univ K
  · exact runD c (grid0.coords t) _ _ _ _ _ _ _ _ _ _ _ _ _ _ _ _ _ _ _ _ _ _ _ _ _ _ _ _ _ _ _ _ _ _ _ _
      (fun k => by have := e0.mp k; omega) (fun k => by have := e1.mp k; omega) (fun k => by have := e2.mp k; omega) (e3.mpr h) (fun k => by have := e4.mp k; omega) (fun k => by have := e5.mp k; omega)
      _ _ _ _ _ _ _ _ _ _ Set.univ K
  · exact runE c (grid0.coords t) _ _ _ _ _ _ _ _ _ _ _ _ _ _ _ _ _ _ _ _ _ _ _ _ _ _ _ _ _ _ _ _ _ _ _ _
      (fun k => by have := e0.mp k; omega) (fun k => by have := e1.mp k; omega) (fun k => by have := e2.mp k; omega) (fun k => by have := e3.mp k; omega) (e4.mpr h) (fun k => by have := e5.mp k; omega)
      _ _ _ _ _ _ _ _ _ _ Set.univ K
  · exact runF c (grid0.coords t) _ _ _ _ _ _ _ _ _ _ _ _ _ _ _ _ _ _ _ _ _ _ _ _ _ _ _ _ _ _ _ _ _ _ _ _
      (fun k => by have := e0.mp k; omega) (fun k => by have := e1.mp k; omega) (fun k => by have := e2.mp k; omega) (fun k => by have := e3.mp k; omega) (fun k => by have := e4.mp k; omega) (e5.mpr h)
      _ _ _ _ _ _ _ _ _ _ Set.univ K

set_option maxHeartbeats 4000000 in
/-- The body at any point, from what the pipeline hands it to what it takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  rw [show (dats m 0 c).leavesExact 6 t = owns (c : Thread nD τ) (ms0_6 t) fullShare (iblk m c 6 t) from by
    unfold Dat.leavesExact; rw [liveAt0_6 t, after0_6]]
  rw [show (dats m 0 c).leavesExact 7 t = owns (c : Thread nD τ) (ms0_7 t) fullShare (iblk m c 7 t) from by
    unfold Dat.leavesExact; rw [liveAt0_7 t, after0_7]]
  rw [show (dats m 0 c).leavesExact 8 t = owns (c : Thread nD τ) (ms0_8 t) fullShare (iblk m c 8 t) from by
    unfold Dat.leavesExact; rw [liveAt0_8 t, after0_8]]
  rw [show (dats m 0 c).leavesExact 9 t = owns (c : Thread nD τ) (ms0_9 t) fullShare (iblk m c 9 t) from by
    unfold Dat.leavesExact; rw [liveAt0_9 t, after0_9]]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14, H15⟩
  iapply (held_body m c t _)
  unfold held
  isplitl [HS0 HS1 H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    iexact HS1
  iintro ⟨H0, H1, H2, H3, H4, H5, H6, H7, H8, H9, H10, H11, H12, H13, H14, H15, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_track_forget`'s implicit arguments are found by unifying its conclusion with this one, which takes unfolding plain
-- definitions in a metavariable's type
set_option backward.isDefEq.respectTransparency.types false in
/-- The launch: it ends, with every argument array unchanged and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- The frame of the call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Proof.InProjTIdeal

end
-- ==== Proof.lean ====
module

public import proofs.«01_k».proof.Defs
public import proofs.«01_k».proof.Proof.ConvFrame
public import proofs.«01_k».proof.Proof.ConvValue
public import proofs.«01_k».proof.Proof.Gen.Mlp.Frame
public import proofs.«01_k».proof.Proof.MlpValue
public import proofs.«01_k».proof.Proof.Gen.Ple.Frame
public import proofs.«01_k».proof.Proof.PleValue
public import proofs.«01_k».proof.Proof.Gen.Glu.Frame
public import proofs.«01_k».proof.Proof.GluValue
public import proofs.«01_k».proof.Proof.Gen.Res.Frame
public import proofs.«01_k».proof.Proof.ResValue
public import proofs.«01_k».proof.Proof.Gen.Ple0.Frame
public import proofs.«01_k».proof.Proof.Ple0Value
public import proofs.«01_k».proof.Proof.Gen.Rope.Frame
public import proofs.«01_k».proof.Proof.RopeValue
public import proofs.«01_k».proof.Proof.InProjTFrame
public import proofs.«01_k».proof.Proof.InProjTIdealFrame

@[expose] public section

namespace Cert.Proof

/-- Everything the certificate claims: first the facts the programs state, then each program's frame, then for each call
    that its idealised form has the same arrays and computes what its reference does. The input projection has frames alone. -/
theorem claim : Cert.Claim :=
  ⟨Cert.Conv.Gen.facts,
   Cert.ConvIdeal.Gen.facts,
   Cert.ConvRefIdeal.Gen.facts,
   Cert.Mlp.Gen.facts,
   Cert.MlpIdeal.Gen.facts,
   Cert.MlpRefIdeal.Gen.facts,
   Cert.Ple.Gen.facts,
   Cert.PleIdeal.Gen.facts,
   Cert.PleRefIdeal.Gen.facts,
   Cert.Glu.Gen.facts,
   Cert.GluIdeal.Gen.facts,
   Cert.GluRefIdeal.Gen.facts,
   Cert.Res.Gen.facts,
   Cert.ResIdeal.Gen.facts,
   Cert.ResRefIdeal.Gen.facts,
   Cert.Ple0.Gen.facts,
   Cert.Ple0Ideal.Gen.facts,
   Cert.Ple0RefIdeal.Gen.facts,
   Cert.Rope.Gen.facts,
   Cert.RopeIdeal.Gen.facts,
   Cert.RopeRefIdeal.Gen.facts,
   Cert.InProjT.Gen.facts,
   Cert.InProjTIdeal.Gen.facts,
   fun m ρ _ => Cert.Proof.Conv.frame m ρ,
   fun m ρ _ => Cert.Proof.ConvIdeal.frame m ρ,
   Cert.Proof.Conv.ref_frame,
   fun m ρ _ => Cert.Mlp.Gen.frame m ρ,
   fun m ρ _ => Cert.MlpIdeal.Gen.frame m ρ,
   Cert.Proof.Mlp.ref_frame,
   fun m ρ _ => Cert.Ple.Gen.frame m ρ,
   fun m ρ _ => Cert.PleIdeal.Gen.frame m ρ,
   Cert.Proof.Ple.ref_frame,
   fun m ρ _ => Cert.Glu.Gen.frame m ρ,
   fun m ρ _ => Cert.GluIdeal.Gen.frame m ρ,
   Cert.Proof.Glu.ref_frame,
   fun m ρ _ => Cert.Res.Gen.frame m ρ,
   fun m ρ _ => Cert.ResIdeal.Gen.frame m ρ,
   Cert.Proof.Res.ref_frame,
   fun m ρ _ => Cert.Ple0.Gen.frame m ρ,
   fun m ρ _ => Cert.Ple0Ideal.Gen.frame m ρ,
   Cert.Proof.Ple0.ref_frame,
   fun m ρ _ => Cert.Rope.Gen.frame m ρ,
   fun m ρ _ => Cert.RopeIdeal.Gen.frame m ρ,
   Cert.Proof.Rope.ref_frame,
   fun m ρ _ => Cert.Proof.InProjT.frame m ρ,
   fun m ρ _ => Cert.Proof.InProjTIdeal.frame m ρ,
   trivial,
   Cert.Proof.Conv.algebraic,
   trivial,
   Cert.Proof.Mlp.algebraic,
   trivial,
   Cert.Proof.Ple.algebraic,
   trivial,
   Cert.Proof.Glu.algebraic,
   trivial,
   Cert.Proof.Res.algebraic,
   trivial,
   Cert.Proof.Ple0.algebraic,
   trivial,
   Cert.Proof.Rope.algebraic,
   trivial⟩

end Cert.Proof

end
